-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unbiased [hPre_finite_and_unbiased : Cert.Pre_finite_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unbiased [hPre_finite_and_unbiased : Cert.Pre_finite_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_and_unbiased [hKernelIdeal : Cert.KernelIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_and_unbiased [hReferenceIdeal : Cert.ReferenceIdeal.Facts] [hPre_finite_and_unbiased : Cert.Pre_finite_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_finite_and_unbiased [hKernelIdeal : Cert.KernelIdeal.Facts] [hReferenceIdeal : Cert.ReferenceIdeal.Facts] [hPre_finite_and_unbiased : Cert.Pre_finite_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_and_unbiased : Cert.Pre_finite_and_unbiased.Facts),
    quiescent_Kernel (hKernel := hKernel)
    ∧ quiescent_KernelIdeal (hKernelIdeal := hKernelIdeal)
    ∧ quiescent_KernelIdeal_pre_finite_and_unbiased (hKernelIdeal := hKernelIdeal) (hPre_finite_and_unbiased := hPre_finite_and_unbiased)
    ∧ quiescent_ReferenceIdeal (hReferenceIdeal := hReferenceIdeal)
    ∧ quiescent_ReferenceIdeal_pre_finite_and_unbiased (hReferenceIdeal := hReferenceIdeal) (hPre_finite_and_unbiased := hPre_finite_and_unbiased)
    ∧ preserves_Kernel_KernelIdeal
    ∧ algebraic_KernelIdeal_ReferenceIdeal_pre_finite_and_unbiased (hKernelIdeal := hKernelIdeal) (hReferenceIdeal := hReferenceIdeal) (hPre_finite_and_unbiased := hPre_finite_and_unbiased)
-- ==== Pre_finite_and_unbiased.lean ====
abbrev S16x512x2048 : Shape := ⟨3, ![16, 512, 2048]⟩
abbrev S16x128x2048 : Shape := ⟨3, ![16, 128, 2048]⟩
abbrev S16 : Shape := ⟨1, ![16]⟩
abbrev S1024x128 : Shape := ⟨2, ![1024, 128]⟩
abbrev S1024 : Shape := ⟨1, ![1024]⟩
abbrev S1 : Shape := ⟨1, ![1]⟩
abbrev S512x512x3 : Shape := ⟨3, ![512, 512, 3]⟩
abbrev S512 : Shape := ⟨1, ![512]⟩
abbrev S_ : Shape := ⟨0, ![]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg7 : FVec F S512 .f32) (main_arg9 : FVec F S1024 .f32) (main_arg12 : FVec F S512 .f32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_cst_6 : FVec F S_ .f32 := constant S_ .f32 0x00000000#32
  let main_v18 : FVec F S1024 .f32 := broadcastInDim S1024 ![] bcast_S_S1024 main_cst_6
  let main_v19 : IVec S1024 1 := cmpf .oeq main_arg9 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  let main_cst_8 : FVec F S_ .f32 := constant S_ .f32 0x00000000#32
  let main_v22 : FVec F S512 .f32 := broadcastInDim S512 ![] bcast_S_S512 main_cst_8
  let main_v23 : IVec S512 1 := cmpf .oeq main_arg7 main_v22
  let main_c_9 : IVec S_ 1 := constantI S_ 1 1#1
  let main_v24 : IVec S_ 1 := (fun x v => Host.reduce IntOp.andi x v reducesTo_S512_S_d0 h_S_) main_v23 main_c_9
  let main_v25 : IVec S_ 1 := andi main_v21 main_v24
  let main_cst_10 : FVec F S_ .f32 := constant S_ .f32 0x00000000#32
  let main_v26 : FVec F S512 .f32 := broadcastInDim S512 ![] bcast_S_S512 main_cst_10
  let main_v27 : IVec S512 1 := cmpf .oeq main_arg12 main_v26
  let main_c_11 : IVec S_ 1 := constantI S_ 1 1#1
  let main_v28 : IVec S_ 1 := (fun x v => Host.reduce IntOp.andi x v reducesTo_S512_S_d0 h_S_) main_v27 main_c_11
  let main_v29 : IVec S_ 1 := andi main_v25 main_v28
  main_v29

def fn {F : FTy → Type} [FloatOps F] (main_arg0 : FVec F S16x512x2048 .f32) (main_arg1 : FVec F S16x128x2048 .f32) (main_arg2 : IVec S16 32) (main_arg3 : FVec F S1024x128 .f32) (main_arg4 : FVec F S1024 .f32) (main_arg5 : FVec F S1 .f32) (main_arg6 : FVec F S512x512x3 .f32) (main_arg7 : FVec F S512 .f32) (main_arg8 : FVec F S1024x128 .f32) (main_arg9 : FVec F S1024 .f32) (main_arg10 : FVec F S1 .f32) (main_arg11 : FVec F S512x512x3 .f32) (main_arg12 : FVec F S512 .f32) : IVec S_ 1 :=
  let main_v0 : FVec F S16x128x2048 .f32 := Host.absf main_arg1
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S1024x128 .f32 := Host.absf main_arg3
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg8
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_cst_4 : FVec F S_ .f32 := constant S_ .f32 0x00000000#32
  let main_v14 : FVec F S1024 .f32 := broadcastInDim S1024 ![] bcast_S_S1024 main_cst_4
  let main_v15 : IVec S1024 1 := cmpf .oeq main_arg4 main_v14
  let main_c_5 : IVec S_ 1 := constantI S_ 1 1#1
  fn_part1 (F := F) main_arg7 main_arg9 main_arg12 main_v13 main_v15 main_c_5
-- ==== Kernel.lean ====
abbrev S16x512x2048 : Shape := ⟨3, ![16, 512, 2048]⟩
abbrev S16x128x2048 : Shape := ⟨3, ![16, 128, 2048]⟩
abbrev S16 : Shape := ⟨1, ![16]⟩
abbrev S1024x128 : Shape := ⟨2, ![1024, 128]⟩
abbrev S1024 : Shape := ⟨1, ![1024]⟩
abbrev S1 : Shape := ⟨1, ![1]⟩
abbrev S512x512x3 : Shape := ⟨3, ![512, 512, 3]⟩
abbrev S512 : Shape := ⟨1, ![512]⟩
abbrev S512x256 : Shape := ⟨2, ![512, 256]⟩
abbrev S3x512x512 : Shape := ⟨3, ![3, 512, 512]⟩
abbrev S1x512x2048 : Shape := ⟨3, ![1, 512, 2048]⟩
abbrev S1x128x2048 : Shape := ⟨3, ![1, 128, 2048]⟩
abbrev S128x2048 : Shape := ⟨2, ![128, 2048]⟩
abbrev S512x2048 : Shape := ⟨2, ![512, 2048]⟩
abbrev S1x2048 : Shape := ⟨2, ![1, 2048]⟩
abbrev S128x384 : Shape := ⟨2, ![128, 384]⟩
abbrev S384x256 : Shape := ⟨2, ![384, 256]⟩
abbrev S128x256 : Shape := ⟨2, ![128, 256]⟩
abbrev S1x256 : Shape := ⟨2, ![1, 256]⟩
abbrev S128x512 : Shape := ⟨2, ![128, 512]⟩
abbrev S1024x256 : Shape := ⟨2, ![1024, 256]⟩
abbrev S1x512x256 : Shape := ⟨3, ![1, 512, 256]⟩
abbrev S1x512x512 : Shape := ⟨3, ![1, 512, 512]⟩
abbrev S512x512 : Shape := ⟨2, ![512, 512]⟩
abbrev S512x1 : Shape := ⟨2, ![512, 1]⟩
abbrev S512x255 : Shape := ⟨2, ![512, 255]⟩

abbrev nBuf : Space → Nat
  | .hbm => 23
  | .vmem => 14
  | .smem => 3
  | _ => 0

abbrev bufTy : (tb : Table) → Fin (tcTables nBuf tb) → BufTy
  | .hbm, ⟨0, _⟩ => ⟨S16x512x2048, .f32⟩
  | .hbm, ⟨1, _⟩ => ⟨S16x128x2048, .f32⟩
  | .hbm, ⟨2, _⟩ => ⟨S16, .i32⟩
  | .hbm, ⟨3, _⟩ => ⟨S1024x128, .f32⟩
  | .hbm, ⟨4, _⟩ => ⟨S1024, .f32⟩
  | .hbm, ⟨5, _⟩ => ⟨S1, .f32⟩
  | .hbm, ⟨6, _⟩ => ⟨S512x512x3, .f32⟩
  | .hbm, ⟨7, _⟩ => ⟨S512, .f32⟩
  | .hbm, ⟨8, _⟩ => ⟨S1024x128, .f32⟩
  | .hbm, ⟨9, _⟩ => ⟨S1024, .f32⟩
  | .hbm, ⟨10, _⟩ => ⟨S1, .f32⟩
  | .hbm, ⟨11, _⟩ => ⟨S512x512x3, .f32⟩
  | .hbm, ⟨12, _⟩ => ⟨S512, .f32⟩
  | .hbm, ⟨13, _⟩ => ⟨S512x256, .f32⟩
  | .hbm, ⟨14, _⟩ => ⟨S512x256, .bf16⟩
  | .hbm, ⟨15, _⟩ => ⟨S3x512x512, .f32⟩
  | .hbm, ⟨16, _⟩ => ⟨S3x512x512, .bf16⟩
  | .hbm, ⟨17, _⟩ => ⟨S3x512x512, .f32⟩
  | .hbm, ⟨18, _⟩ => ⟨S3x512x512, .bf16⟩
  | .hbm, ⟨19, _⟩ => ⟨S16x128x2048, .bf16⟩
  | .hbm, ⟨20, _⟩ => ⟨S1024x128, .bf16⟩
  | .hbm, ⟨21, _⟩ => ⟨S1024x128, .bf16⟩
  | .hbm, ⟨22, _⟩ => ⟨S16x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x128x2048, .bf16⟩
  | .local _ .vmem, ⟨3, _⟩ => ⟨S1x128x2048, .bf16⟩
  | .local _ .vmem, ⟨4, _⟩ => ⟨S512x256, .bf16⟩
  | .local _ .vmem, ⟨5, _⟩ => ⟨S1024x128, .bf16⟩
  | .local _ .vmem, ⟨6, _⟩ => ⟨S3x512x512, .bf16⟩
  | .local _ .vmem, ⟨7, _⟩ => ⟨S1024x128, .bf16⟩
  | .local _ .vmem, ⟨8, _⟩ => ⟨S3x512x512, .bf16⟩
  | .local _ .vmem, ⟨9, _⟩ => ⟨S1x512x2048, .f32⟩
  | .local _ .vmem, ⟨10, _⟩ => ⟨S1x512x2048, .f32⟩
  | .local _ .vmem, ⟨11, _⟩ => ⟨S128x2048, .bf16⟩
  | .local _ .vmem, ⟨12, _⟩ => ⟨S512x2048, .bf16⟩
  | .local _ .vmem, ⟨13, _⟩ => ⟨S512x2048, .f32⟩
  | .local _ .smem, ⟨0, _⟩ => ⟨S16, .i32⟩
  | .local _ .smem, ⟨1, _⟩ => ⟨S1, .f32⟩
  | .local _ .smem, ⟨2, _⟩ => ⟨S1, .f32⟩
  | _, _ => ⟨S16x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg10_0 : Ref sig .tc := ⟨.vmem, 9, rfl⟩
abbrev cc0_stg10_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg7_0 : Ref sig .tc := ⟨.smem, 0, rfl⟩
abbrev cc0_stg8_0 : Ref sig .tc := ⟨.smem, 1, rfl⟩
abbrev cc0_stg9_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16x512x2048 : Shape := ⟨3, ![16, 512, 2048]⟩
abbrev S16x128x2048 : Shape := ⟨3, ![16, 128, 2048]⟩
abbrev S16 : Shape := ⟨1, ![16]⟩
abbrev S1024x128 : Shape := ⟨2, ![1024, 128]⟩
abbrev S1024 : Shape := ⟨1, ![1024]⟩
abbrev S1 : Shape := ⟨1, ![1]⟩
abbrev S512x512x3 : Shape := ⟨3, ![512, 512, 3]⟩
abbrev S512 : Shape := ⟨1, ![512]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1024x16x2048 : Shape := ⟨3, ![1024, 16, 2048]⟩
abbrev S16x1024x2048 : Shape := ⟨3, ![16, 1024, 2048]⟩
abbrev S1x1024x1 : Shape := ⟨3, ![1, 1024, 1]⟩
abbrev S16x1x2048 : Shape := ⟨3, ![16, 1, 2048]⟩
abbrev S_ : Shape := ⟨0, ![]⟩
abbrev S16x1x2084 : Shape := ⟨3, ![16, 1, 2084]⟩
abbrev S16x1x2085 : Shape := ⟨3, ![16, 1, 2085]⟩
abbrev S16x512x2084 : Shape := ⟨3, ![16, 512, 2084]⟩
abbrev S16x512x2085 : Shape := ⟨3, ![16, 512, 2085]⟩
abbrev S1x1x1 : Shape := ⟨3, ![1, 1, 1]⟩
abbrev S16x512x2050 : Shape := ⟨3, ![16, 512, 2050]⟩
abbrev S512x512x1 : Shape := ⟨3, ![512, 512, 1]⟩
abbrev S512x512 : Shape := ⟨2, ![512, 512]⟩
abbrev S16x2048x512 : Shape := ⟨3, ![16, 2048, 512]⟩
abbrev S1x512x1 : Shape := ⟨3, ![1, 512, 1]⟩

abbrev nBuf : Space → Nat
  | .hbm => 221
  | .vmem => 0
  | .smem => 0
  | _ => 0

abbrev hbmTy0_0 (i : Nat) : BufTy := match i % 128 with
  | 0 => ⟨S16x512x2048, .f32⟩
  | 1 => ⟨S16x128x2048, .f32⟩
  | 2 => ⟨S16, .i32⟩
  | 3 => ⟨S1024x128, .f32⟩
  | 4 => ⟨S1024, .f32⟩
  | 5 => ⟨S1, .f32⟩
  | 6 => ⟨S512x512x3, .f32⟩
  | 7 => ⟨S512, .f32⟩
  | 8 => ⟨S1024x128, .f32⟩
  | 9 => ⟨S1024, .f32⟩
  | 10 => ⟨S1, .f32⟩
  | 11 => ⟨S512x512x3, .f32⟩
  | 12 => ⟨S512, .f32⟩
  | 13 => ⟨S2048, .i32⟩
  | 14 => ⟨S1x2048, .i32⟩
  | 15 => ⟨S16x1, .i32⟩
  | 16 => ⟨S16x2048, .i32⟩
  | 17 => ⟨S16x2048, .i32⟩
  | 18 => ⟨S16x2048, .i1⟩
  | 19 => ⟨S16x2048, .f32⟩
  | 20 => ⟨S1024x16x2048, .f32⟩
  | 21 => ⟨S16x1024x2048, .f32⟩
  | 22 => ⟨S1x1024x1, .f32⟩
  | 23 => ⟨S16x1024x2048, .f32⟩
  | 24 => ⟨S16x1024x2048, .f32⟩
  | 25 => ⟨S16x1x2048, .f32⟩
  | 26 => ⟨S_, .i32⟩
  | 27 => ⟨S_, .f32⟩
  | 28 => ⟨S16x1x2084, .f32⟩
  | 29 => ⟨S_, .f32⟩
  | 30 => ⟨S_, .f32⟩
  | 31 => ⟨S16x1x2084, .f32⟩
  | 32 => ⟨S_, .i32⟩
  | 33 => ⟨S_, .f32⟩
  | 34 => ⟨S16x1x2085, .f32⟩
  | 35 => ⟨S16x1x2048, .f32⟩
  | 36 => ⟨S16x1x2048, .f32⟩
  | 37 => ⟨S16x1x2048, .f32⟩
  | 38 => ⟨S_, .f32⟩
  | 39 => ⟨S16x1x2048, .f32⟩
  | 40 => ⟨S16x1x2048, .f32⟩
  | 41 => ⟨S16x512x2048, .f32⟩
  | 42 => ⟨S_, .i32⟩
  | 43 => ⟨S_, .f32⟩
  | 44 => ⟨S16x512x2084, .f32⟩
  | 45 => ⟨S_, .f32⟩
  | 46 => ⟨S_, .f32⟩
  | 47 => ⟨S16x512x2084, .f32⟩
  | 48 => ⟨S_, .i32⟩
  | 49 => ⟨S_, .f32⟩
  | 50 => ⟨S16x512x2085, .f32⟩
  | 51 => ⟨S16x512x2048, .f32⟩
  | 52 => ⟨S16x512x2048, .f32⟩
  | 53 => ⟨S16x512x2048, .f32⟩
  | 54 => ⟨S16x512x2048, .f32⟩
  | 55 => ⟨S16x512x2048, .f32⟩
  | 56 => ⟨S16x512x2048, .f32⟩
  | 57 => ⟨S16x512x2048, .f32⟩
  | 58 => ⟨S16x512x2048, .f32⟩
  | 59 => ⟨S_, .i32⟩
  | 60 => ⟨S_, .f32⟩
  | 61 => ⟨S16x512x2084, .f32⟩
  | 62 => ⟨S_, .f32⟩
  | 63 => ⟨S_, .f32⟩
  | 64 => ⟨S16x512x2084, .f32⟩
  | 65 => ⟨S_, .i32⟩
  | 66 => ⟨S_, .f32⟩
  | 67 => ⟨S16x512x2085, .f32⟩
  | 68 => ⟨S16x512x2048, .f32⟩
  | 69 => ⟨S16x512x2048, .f32⟩
  | 70 => ⟨S16x512x2048, .f32⟩
  | 71 => ⟨S16x512x2048, .f32⟩
  | 72 => ⟨S16x512x2048, .f32⟩
  | 73 => ⟨S16x512x2048, .f32⟩
  | 74 => ⟨S16x512x2048, .f32⟩
  | 75 => ⟨S1x1x1, .f32⟩
  | 76 => ⟨S16x512x2048, .f32⟩
  | 77 => ⟨S16x512x2048, .f32⟩
  | 78 => ⟨S16x512x2048, .f32⟩
  | 79 => ⟨S_, .f32⟩
  | 80 => ⟨S16x512x2048, .f32⟩
  | 81 => ⟨S16x512x2048, .f32⟩
  | 82 => ⟨S16x512x2048, .f32⟩
  | 83 => ⟨S16x512x2048, .f32⟩
  | 84 => ⟨S_, .f32⟩
  | 85 => ⟨S_, .f32⟩
  | 86 => ⟨S16x512x2048, .f32⟩
  | 87 => ⟨S16x512x2048, .i1⟩
  | 88 => ⟨S_, .f32⟩
  | 89 => ⟨S16x512x2048, .f32⟩
  | 90 => ⟨S16x512x2048, .f32⟩
  | 91 => ⟨S16x512x2048, .f32⟩
  | 92 => ⟨S_, .i32⟩
  | 93 => ⟨S_, .f32⟩
  | 94 => ⟨S16x512x2050, .f32⟩
  | 95 => ⟨S512x512x1, .f32⟩
  | 96 => ⟨S512x512, .f32⟩
  | 97 => ⟨S16x512x2048, .f32⟩
  | 98 => ⟨S16x2048x512, .f32⟩
  | 99 => ⟨S16x512x2048, .f32⟩
  | 100 => ⟨S_, .f32⟩
  | 101 => ⟨S16x512x2048, .f32⟩
  | 102 => ⟨S16x512x2048, .f32⟩
  | 103 => ⟨S512x512x1, .f32⟩
  | 104 => ⟨S512x512, .f32⟩
  | 105 => ⟨S16x512x2048, .f32⟩
  | 106 => ⟨S16x2048x512, .f32⟩
  | 107 => ⟨S16x512x2048, .f32⟩
  | 108 => ⟨S16x512x2048, .f32⟩
  | 109 => ⟨S512x512x1, .f32⟩
  | 110 => ⟨S512x512, .f32⟩
  | 111 => ⟨S16x512x2048, .f32⟩
  | 112 => ⟨S16x2048x512, .f32⟩
  | 113 => ⟨S16x512x2048, .f32⟩
  | 114 => ⟨S16x512x2048, .f32⟩
  | 115 => ⟨S1x512x1, .f32⟩
  | 116 => ⟨S16x512x2048, .f32⟩
  | 117 => ⟨S16x512x2048, .f32⟩
  | 118 => ⟨S1024x16x2048, .f32⟩
  | 119 => ⟨S16x1024x2048, .f32⟩
  | 120 => ⟨S1x1024x1, .f32⟩
  | 121 => ⟨S16x1024x2048, .f32⟩
  | 122 => ⟨S16x1024x2048, .f32⟩
  | 123 => ⟨S16x1x2048, .f32⟩
  | 124 => ⟨S_, .i32⟩
  | 125 => ⟨S_, .f32⟩
  | 126 => ⟨S16x1x2084, .f32⟩
  | 127 => ⟨S_, .f32⟩
  | _ => ⟨S16x512x2048, .f32⟩

abbrev hbmTy0_1 (i : Nat) : BufTy := match i % 128 with
  | 0 => ⟨S_, .f32⟩
  | 1 => ⟨S16x1x2084, .f32⟩
  | 2 => ⟨S_, .i32⟩
  | 3 => ⟨S_, .f32⟩
  | 4 => ⟨S16x1x2085, .f32⟩
  | 5 => ⟨S16x1x2048, .f32⟩
  | 6 => ⟨S16x1x2048, .f32⟩
  | 7 => ⟨S16x1x2048, .f32⟩
  | 8 => ⟨S_, .f32⟩
  | 9 => ⟨S16x1x2048, .f32⟩
  | 10 => ⟨S16x1x2048, .f32⟩
  | 11 => ⟨S16x512x2048, .f32⟩
  | 12 => ⟨S_, .i32⟩
  | 13 => ⟨S_, .f32⟩
  | 14 => ⟨S16x512x2084, .f32⟩
  | 15 => ⟨S_, .f32⟩
  | 16 => ⟨S_, .f32⟩
  | 17 => ⟨S16x512x2084, .f32⟩
  | 18 => ⟨S_, .i32⟩
  | 19 => ⟨S_, .f32⟩
  | 20 => ⟨S16x512x2085, .f32⟩
  | 21 => ⟨S16x512x2048, .f32⟩
  | 22 => ⟨S16x512x2048, .f32⟩
  | 23 => ⟨S16x512x2048, .f32⟩
  | 24 => ⟨S16x512x2048, .f32⟩
  | 25 => ⟨S16x512x2048, .f32⟩
  | 26 => ⟨S16x512x2048, .f32⟩
  | 27 => ⟨S16x512x2048, .f32⟩
  | 28 => ⟨S16x512x2048, .f32⟩
  | 29 => ⟨S_, .i32⟩
  | 30 => ⟨S_, .f32⟩
  | 31 => ⟨S16x512x2084, .f32⟩
  | 32 => ⟨S_, .f32⟩
  | 33 => ⟨S_, .f32⟩
  | 34 => ⟨S16x512x2084, .f32⟩
  | 35 => ⟨S_, .i32⟩
  | 36 => ⟨S_, .f32⟩
  | 37 => ⟨S16x512x2085, .f32⟩
  | 38 => ⟨S16x512x2048, .f32⟩
  | 39 => ⟨S16x512x2048, .f32⟩
  | 40 => ⟨S16x512x2048, .f32⟩
  | 41 => ⟨S16x512x2048, .f32⟩
  | 42 => ⟨S16x512x2048, .f32⟩
  | 43 => ⟨S16x512x2048, .f32⟩
  | 44 => ⟨S16x512x2048, .f32⟩
  | 45 => ⟨S1x1x1, .f32⟩
  | 46 => ⟨S16x512x2048, .f32⟩
  | 47 => ⟨S16x512x2048, .f32⟩
  | 48 => ⟨S16x512x2048, .f32⟩
  | 49 => ⟨S_, .f32⟩
  | 50 => ⟨S16x512x2048, .f32⟩
  | 51 => ⟨S16x512x2048, .f32⟩
  | 52 => ⟨S16x512x2048, .f32⟩
  | 53 => ⟨S16x512x2048, .f32⟩
  | 54 => ⟨S_, .f32⟩
  | 55 => ⟨S_, .f32⟩
  | 56 => ⟨S16x512x2048, .f32⟩
  | 57 => ⟨S16x512x2048, .i1⟩
  | 58 => ⟨S_, .f32⟩
  | 59 => ⟨S16x512x2048, .f32⟩
  | 60 => ⟨S16x512x2048, .f32⟩
  | 61 => ⟨S16x512x2048, .f32⟩
  | 62 => ⟨S_, .i32⟩
  | 63 => ⟨S_, .f32⟩
  | 64 => ⟨S16x512x2050, .f32⟩
  | 65 => ⟨S512x512x1, .f32⟩
  | 66 => ⟨S512x512, .f32⟩
  | 67 => ⟨S16x512x2048, .f32⟩
  | 68 => ⟨S16x2048x512, .f32⟩
  | 69 => ⟨S16x512x2048, .f32⟩
  | 70 => ⟨S_, .f32⟩
  | 71 => ⟨S16x512x2048, .f32⟩
  | 72 => ⟨S16x512x2048, .f32⟩
  | 73 => ⟨S512x512x1, .f32⟩
  | 74 => ⟨S512x512, .f32⟩
  | 75 => ⟨S16x512x2048, .f32⟩
  | 76 => ⟨S16x2048x512, .f32⟩
  | 77 => ⟨S16x512x2048, .f32⟩
  | 78 => ⟨S16x512x2048, .f32⟩
  | 79 => ⟨S512x512x1, .f32⟩
  | 80 => ⟨S512x512, .f32⟩
  | 81 => ⟨S16x512x2048, .f32⟩
  | 82 => ⟨S16x2048x512, .f32⟩
  | 83 => ⟨S16x512x2048, .f32⟩
  | 84 => ⟨S16x512x2048, .f32⟩
  | 85 => ⟨S1x512x1, .f32⟩
  | 86 => ⟨S16x512x2048, .f32⟩
  | 87 => ⟨S16x512x2048, .f32⟩
  | 88 => ⟨S16x512x2048, .f32⟩
  | 89 => ⟨S_, .f32⟩
  | 90 => ⟨S_, .f32⟩
  | 91 => ⟨S16x512x2048, .f32⟩
  | 92 => ⟨S16x512x2048, .f32⟩
  | _ => ⟨S16x512x2048, .f32⟩

abbrev hbmTy (i : Nat) : BufTy := match i / 128 with
  | 0 => hbmTy0_0 i
  | 1 => hbmTy0_1 i
  | _ => ⟨S16x512x2048, .f32⟩

abbrev bufTy : (tb : Table) → Fin (tcTables nBuf tb) → BufTy
  | .hbm, ⟨i, _⟩ => hbmTy i
  | _, _ => ⟨S16x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_call1_call0_cst : Ref sig .tc := ⟨.hbm, 29, rfl⟩
abbrev main_call1_call0_v0 : Ref sig .tc := ⟨.hbm, 30, rfl⟩
abbrev main_v14 : Ref sig .tc := ⟨.hbm, 31, rfl⟩
abbrev main_c_0 : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_call3_v0 : Ref sig .tc := ⟨.hbm, 43, rfl⟩
abbrev main_v22 : Ref sig .tc := ⟨.hbm, 44, rfl⟩
abbrev main_call4_call0_cst : Ref sig .tc := ⟨.hbm, 45, rfl⟩
abbrev main_call4_call0_v0 : Ref sig .tc := ⟨.hbm, 46, rfl⟩
abbrev main_v23 : Ref sig .tc := ⟨.hbm, 47, rfl⟩
abbrev main_c_2 : Ref sig .tc := ⟨.hbm, 48, rfl⟩
abbrev main_call5_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_call6_v0 : Ref sig .tc := ⟨.hbm, 60, rfl⟩
abbrev main_v33 : Ref sig .tc := ⟨.hbm, 61, rfl⟩
abbrev main_call7_call0_cst : Ref sig .tc := ⟨.hbm, 62, rfl⟩
abbrev main_call7_call0_v0 : Ref sig .tc := ⟨.hbm, 63, rfl⟩
abbrev main_v34 : Ref sig .tc := ⟨.hbm, 64, rfl⟩
abbrev main_c_4 : Ref sig .tc := ⟨.hbm, 65, rfl⟩
abbrev main_call8_v0 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_5 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_6 : Ref sig .tc := ⟨.hbm, 84, rfl⟩
abbrev main_call9_cst : Ref sig .tc := ⟨.hbm, 85, rfl⟩
abbrev main_call9_v0 : Ref sig .tc := ⟨.hbm, 86, rfl⟩
abbrev main_call9_v1 : Ref sig .tc := ⟨.hbm, 87, rfl⟩
abbrev main_call9_v2 : Ref sig .tc := ⟨.hbm, 88, rfl⟩
abbrev main_call9_v3 : Ref sig .tc := ⟨.hbm, 89, rfl⟩
abbrev main_call9_v4 : Ref sig .tc := ⟨.hbm, 90, rfl⟩
abbrev main_v51 : Ref sig .tc := ⟨.hbm, 91, rfl⟩
abbrev main_c_7 : Ref sig .tc := ⟨.hbm, 92, rfl⟩
abbrev main_call10_v0 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_8 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_9 : Ref sig .tc := ⟨.hbm, 124, rfl⟩
abbrev main_call11_v0 : Ref sig .tc := ⟨.hbm, 125, rfl⟩
abbrev main_v81 : Ref sig .tc := ⟨.hbm, 126, rfl⟩
abbrev main_call12_call0_cst : Ref sig .tc := ⟨.hbm, 127, rfl⟩
abbrev main_call12_call0_v0 : Ref sig .tc := ⟨.hbm, 128, rfl⟩
abbrev main_v82 : Ref sig .tc := ⟨.hbm, 129, rfl⟩
abbrev main_c_10 : Ref sig .tc := ⟨.hbm, 130, rfl⟩
abbrev main_call13_v0 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_11 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_c_12 : Ref sig .tc := ⟨.hbm, 140, rfl⟩
abbrev main_call14_v0 : Ref sig .tc := ⟨.hbm, 141, rfl⟩
abbrev main_v90 : Ref sig .tc := ⟨.hbm, 142, rfl⟩
abbrev main_call15_call0_cst : Ref sig .tc := ⟨.hbm, 143, rfl⟩
abbrev main_call15_call0_v0 : Ref sig .tc := ⟨.hbm, 144, rfl⟩
abbrev main_v91 : Ref sig .tc := ⟨.hbm, 145, rfl⟩
abbrev main_c_13 : Ref sig .tc := ⟨.hbm, 146, rfl⟩
abbrev main_call16_v0 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_14 : Ref sig .tc := ⟨.hbm, 157, rfl⟩
abbrev main_call17_v0 : Ref sig .tc := ⟨.hbm, 158, rfl⟩
abbrev main_v101 : Ref sig .tc := ⟨.hbm, 159, rfl⟩
abbrev main_call18_call0_cst : Ref sig .tc := ⟨.hbm, 160, rfl⟩
abbrev main_call18_call0_v0 : Ref sig .tc := ⟨.hbm, 161, rfl⟩
abbrev main_v102 : Ref sig .tc := ⟨.hbm, 162, rfl⟩
abbrev main_c_15 : Ref sig .tc := ⟨.hbm, 163, rfl⟩
abbrev main_call19_v0 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_16 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_cst_17 : Ref sig .tc := ⟨.hbm, 182, rfl⟩
abbrev main_call20_cst : Ref sig .tc := ⟨.hbm, 183, rfl⟩
abbrev main_call20_v0 : Ref sig .tc := ⟨.hbm, 184, rfl⟩
abbrev main_call20_v1 : Ref sig .tc := ⟨.hbm, 185, rfl⟩
abbrev main_call20_v2 : Ref sig .tc := ⟨.hbm, 186, rfl⟩
abbrev main_call20_v3 : Ref sig .tc := ⟨.hbm, 187, rfl⟩
abbrev main_call20_v4 : Ref sig .tc := ⟨.hbm, 188, rfl⟩
abbrev main_v119 : Ref sig .tc := ⟨.hbm, 189, rfl⟩
abbrev main_c_18 : Ref sig .tc := ⟨.hbm, 190, rfl⟩
abbrev main_call21_v0 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_19 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_20 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩

abbrev nD : Nat := 1
abbrev τ : Topo := Topo.v7x

variable {F : FTy → Type} [FloatOps F]
-- ==== Proof.Net.lean ====
/- The network both programs compute, on one row of the batch, as plain functions of a channel and a time: two rounds of
   (modulated tanh, leaky relu, three-tap convolution), then the skip connection. The modulation of each round is a
   parameter here: the two programs differ only in how they compute it. -/
module

public import Idealize.ShloMosaic.Lib.ValueIdx
public import Idealize.ShloMosaic.PureOps.Ideal.Laws

@[expose] public section

noncomputable section

namespace Cert.Net

open Idealize.ShloMosaic Idealize.ShloMosaic.ValueIdx

/-- One number per channel and time. -/
abbrev Sig (n : Nat) := Fin n → Fin 2048 → EReal

/-- The leaky relu's slope on the negative side. -/
def slope : EReal := Ideal.ofBits .f32 0x3E4CCCCD#32

/-- The leaky relu. -/
def leaky (v : EReal) : EReal := if 0 ≤ v then v else slope * v

/-- One modulated activation: `leaky (tanh (a x) (1 + γ) + β)`. -/
def act (a x γ β : EReal) : EReal := leaky (Ideal.tanh (a * x) * (1 + γ) + β)

/-- A modulated layer. -/
def layer {n : Nat} (a : EReal) (x γ β : Sig n) : Sig n := fun ch t => act a (x ch t) (γ ch t) (β ch t)

/-- The signal one step earlier, zero before the row's start. -/
def earlier {n : Nat} (h : Sig n) (i : Fin n) (t : Fin 2048) : EReal :=
  if t.val = 0 then 0 else h i ⟨t.val - 1, by omega⟩

/-- The signal one step later, zero past the row's end. -/
def later {n : Nat} (h : Sig n) (i : Fin n) (t : Fin 2048) : EReal :=
  if hlt : t.val + 1 < 2048 then h i ⟨t.val + 1, hlt⟩ else 0

/-- The three-tap convolution: the middle tap, then the left one, then the right one. -/
def conv {n : Nat} (w : Fin 3 → Fin n → Fin n → EReal) (h : Sig n) : Sig n := fun ch t =>
  ((∑ i, w 1 ch i * h i t) + ∑ i, w 0 ch i * earlier h i t) + ∑ i, w 2 ch i * later h i t

/-- The row of the output: two rounds and the skip connection, scaled by `r`. -/
def net {n : Nat} (x : Sig n) (a₁ a₂ : EReal) (γ₁ β₁ γ₂ β₂ : Sig n) (w₁ w₂ : Fin 3 → Fin n → Fin n → EReal) (r : EReal) :
    Sig n := fun ch t =>
  (conv w₂ (layer a₂ (conv w₁ (layer a₁ x γ₁ β₁)) γ₂ β₂) ch t + x ch t) * r

end Cert.Net
-- ==== Proof.Scalars.lean ====
/- The facts about single extended reals the certificate rests on: the hyperbolic tangent as the kernel writes it, the leaky
   rectifier as a maximum, division by the square root of two as a product, and the few literals read as reals. -/
module

public import Idealize.ShloMosaic.PureOps.Ideal.Laws

@[expose] public section

noncomputable section

namespace Cert.Scalars

open Idealize.ShloMosaic

/-- The literal `1.0` is the number one. -/
theorem lit_one : Ideal.ofBits .f32 0x3F800000#32 = 1 := by
  simp [Ideal.ofBits, Ideal.ieee]
  rw [← EReal.coe_mul, ← EReal.coe_one]
  norm_num

/-- The literal `2.0` is the number two. -/
theorem lit_two : Ideal.ofBits .f32 0x40000000#32 = 2 := by
  simp [Ideal.ofBits, Ideal.ieee]
  rw [← EReal.coe_mul]
  norm_num
  rfl

/-- The bf16 literal `0.0` is zero. -/
theorem lit_zero_bf16 : Ideal.ofBits .bf16 0x0000#16 = 0 := by
  simp [Ideal.ofBits, Ideal.ieee]

/-- The slope's literal is a real between zero and one. -/
theorem lit_slope : ∃ c : ℝ, 0 ≤ c ∧ c ≤ 1 ∧ Ideal.ofBits .f32 0x3E4CCCCD#32 = (c : EReal) := by
  refine ⟨_, ?_, ?_, by simp [Ideal.ofBits, Ideal.ieee]; rfl⟩ <;> norm_num

/-- The denominator's small literal is a positive real. -/
theorem lit_eps : ∃ e : ℝ, 0 < e ∧ Ideal.ofBits .f32 0x3089705F#32 = (e : EReal) := by
  refine ⟨_, ?_, by simp [Ideal.ofBits, Ideal.ieee]; rfl⟩
  norm_num

/-- `1 - 2 / (1 + exp (2a · x))` is `tanh (a · x)`, at every extended real. -/
theorem tanh_two (a x : EReal) : 1 - Ideal.div 2 (1 + Ideal.exp (2 * a * x)) = Ideal.tanh (a * x) := by
  rw [mul_assoc]
  generalize a * x = y
  induction y with
  | bot =>
    have h2 : (2 : EReal) * ⊥ = ⊥ := EReal.mul_bot_of_pos (by norm_num)
    rw [h2, Ideal.exp_bot, add_zero, Ideal.tanh_bot, Ideal.div, if_neg one_ne_zero, inv_one, mul_one]
    exact (EReal.coe_sub 1 2).symm.trans (by norm_num)
  | top =>
    have h2 : (2 : EReal) * ⊤ = ⊤ := EReal.mul_top_of_pos (by norm_num)
    have h3 : (1 : EReal) + ⊤ = ⊤ := by norm_cast
    rw [h2, Ideal.exp_top, h3, Ideal.tanh_top, Ideal.div, if_neg (by simp), EReal.inv_top, mul_zero, sub_zero]
  | coe r =>
    have h2 : (2 : EReal) * (r : EReal) = ((2 * r : ℝ) : EReal) := by norm_cast
    have hp : (0 : ℝ) < 1 + Real.exp (2 * r) := by positivity
    rw [h2, Ideal.exp_coe, Ideal.tanh_coe]
    have h3 : (1 : EReal) + ((Real.exp (2 * r) : ℝ) : EReal) = ((1 + Real.exp (2 * r) : ℝ) : EReal) := by norm_cast
    rw [h3, Ideal.div_coe hp.ne']
    have h4 : (1 : EReal) - 2 * ((1 / (1 + Real.exp (2 * r)) : ℝ) : EReal) = ((1 - 2 * (1 / (1 + Real.exp (2 * r))) : ℝ) : EReal) := by
      norm_cast
    rw [h4]
    congr 1
    rw [Real.tanh_eq_sinh_div_cosh, Real.sinh_eq, Real.cosh_eq]
    have e1 : Real.exp (2 * r) = Real.exp r * Real.exp r := by rw [← Real.exp_add]; congr 1; ring
    have e2 : Real.exp (-r) = (Real.exp r)⁻¹ := Real.exp_neg r
    have e3 : 0 < Real.exp r := Real.exp_pos r
    rw [e1, e2]
    field_simp
    ring

/-- The leaky rectifier: the larger of `v` and `c · v` is `v` where `v` is at least zero and `c · v` elsewhere, for a slope
    between zero and one. -/
theorem lrelu_max (c : ℝ) (h0 : 0 ≤ c) (h1 : c ≤ 1) (v : EReal) :
    max v ((c : EReal) * v) = if 0 ≤ v then v else (c : EReal) * v := by
  have hc0 : (0 : EReal) ≤ (c : EReal) := by exact_mod_cast h0
  have hc1 : (c : EReal) ≤ 1 := by exact_mod_cast h1
  by_cases hv : 0 ≤ v
  · rw [if_pos hv]
    refine max_eq_left ?_
    calc (c : EReal) * v ≤ 1 * v := mul_le_mul_of_nonneg_right hc1 hv
      _ = v := one_mul v
  · rw [if_neg hv]
    refine max_eq_right ?_
    have hn : 0 ≤ -v := by
      rw [EReal.le_neg, neg_zero]
      exact (not_le.mp hv).le
    have h := mul_le_mul_of_nonneg_right hc1 hn
    rw [one_mul, mul_neg] at h
    exact EReal.neg_le_neg_iff.mp h

/-- Dividing by the square root of two is multiplying by its reciprocal. -/
theorem div_sqrt_two (v : EReal) : Ideal.div v ((Real.sqrt 2 : ℝ) : EReal) = v * (((Real.sqrt 2)⁻¹ : ℝ) : EReal) := by
  rw [Ideal.div_coe (Real.sqrt_pos.mpr (by norm_num)).ne', one_div]

end Cert.Scalars

end
-- ==== Proof.Blocks.lean ====
/- What the kernel computes on one block of 256 columns, read at an entry: the modulated activation and the three-tap
   convolution, each stated once for every block. -/
module

public import proofs.«01_k».proof.Proof.Gen.KernelIdeal.Frame
public import proofs.«01_k».proof.Proof.Net
public import proofs.«01_k».proof.Proof.Scalars
public import Idealize.ShloMosaic.Lib.Pointwise
public import Idealize.ShloMosaic.Lib.MatmulPlain

@[expose] public section

noncomputable section

namespace Cert.Blocks

open Idealize.ShloMosaic Cert.KernelIdeal Cert.KernelIdeal.Gen Cert.Net

/-- The activation block: `tanh` written through the exponential, the modulation a product of the layer's matrix with
    the style block, and the leaky relu as a maximum. -/
def affV (c : Ideal .f32) (w : FVec Ideal S1024x128 .bf16) (sw : FVec Ideal S128x256 .bf16) (x : FVec Ideal S512x256 .f32) :
    FVec Ideal S512x256 .bf16 :=
  let one : FVec Ideal S512x256 .f32 := broadcast S512x256 (Scalar.ofBits .f32 0x3F800000#32)
  let gb : FVec Ideal S1024x256 .f32 := matmul (φ₁ := .bf16) (φ₂ := .bf16) dot_S1024x128_S128x256_S1024x256_1_0_0_1_n_n none
    (shapeCast S1024x128 w shapeCasts_S1024x128_S1024x128) sw (constant S1024x256 .f32 0x00000000#32)
  let th := subf one (divf (broadcast S512x256 (Scalar.ofBits .f32 0x40000000#32)) (addf one (exp (mulf (broadcast S512x256 c) x))))
  let v := addf (mulf th (addf one (extractStridedSlice S512x256 ![0, 0] gb slices_S1024x256_o0_0_S512x256)))
    (extractStridedSlice S512x256 ![512, 0] gb slices_S1024x256_o512_0_S512x256)
  shapeCast S512x256 (truncf .bf16 (maximumf v (mulf (broadcast S512x256 (Scalar.ofBits .f32 0x3E4CCCCD#32)) v)) bitsLt_bf16_f32)
    shapeCasts_S512x256_S512x256

/-- The convolution block before it is stored. -/
def convV (w1 : FVec Ideal S1x512x512 .bf16) (h : FVec Ideal S512x256 .bf16) (w0 : FVec Ideal S1x512x512 .bf16)
    (hl : FVec Ideal S512x256 .bf16) (w2 : FVec Ideal S1x512x512 .bf16) (hr : FVec Ideal S512x256 .bf16) : FVec Ideal S512x256 .f32 :=
  let tap (w : FVec Ideal S1x512x512 .bf16) (h : FVec Ideal S512x256 .bf16) : FVec Ideal S512x256 .f32 :=
    matmul (φ₁ := .bf16) (φ₂ := .bf16) dot_S512x512_S512x256_S512x256_1_0_0_1_n_n none (shapeCast S512x512 w shapeCasts_S1x512x512_S512x512) h
      (constant S512x256 .f32 0x00000000#32)
  addf (addf (tap w1 h) (tap w0 hl)) (tap w2 hr)

/-- A product into zero read at an entry: a row of the left against a column of the right. -/
theorem mm_apply {M K N : Nat} {φ₁ φ₂ : FTy} (d : DotDims ⟨2, ![M, K]⟩ ⟨2, ![K, N]⟩ ⟨2, ![M, N]⟩) (hd : d = DotDims.plain M K N)
    (w : FVec Ideal ⟨2, ![M, K]⟩ φ₁) (v : FVec Ideal ⟨2, ![K, N]⟩ φ₂) (r : Fin M) (τ : Fin N) :
    matmul d none w v (constant ⟨2, ![M, N]⟩ .f32 0x00000000#32) (ix2 r τ) = ∑ k, w (ix2 r k) * v (ix2 k τ) := by
  subst hd
  have h := Ideal.matmul_plain_apply none w v (constant ⟨2, ![M, N]⟩ .f32 0x00000000#32) r τ
  simp only [← ix2_eq_valueIdx] at h
  refine Eq.trans ?_ (h.trans ?_)
  · rfl
  · show Ideal.ofBits .f32 0x00000000#32 + _ = _
    rw [Ideal.ofBits_zero_f32, zero_add]

/-- The activation block at an entry is the activation of the entry, its two modulations the products of the layer's
    matrix rows with the style column. -/
theorem affV_apply (a : EReal) (w : FVec Ideal S1024x128 .bf16) (sw : FVec Ideal S128x256 .bf16) (x : FVec Ideal S512x256 .f32)
    (ch : Fin 512) (τ : Fin 256) :
    affV (Scalar.mulf (Scalar.ofBits .f32 0x40000000#32) a) w sw x (ix2 ch τ)
      = act a (x (ix2 ch τ)) (∑ k, w (ix2 (⟨ch.val, by omega⟩ : Fin 1024) k) * sw (ix2 k τ))
          (∑ k, w (ix2 (⟨512 + ch.val, by omega⟩ : Fin 1024) k) * sw (ix2 k τ)) := by
  have hm := mm_apply dot_S1024x128_S128x256_S1024x256_1_0_0_1_n_n rfl w sw
  unfold affV
  rw [shapeCast_self, shapeCast_self]
  obtain ⟨c, h0, h1, hc⟩ := Scalars.lit_slope
  rw [← hm ⟨ch.val, by omega⟩ τ, ← hm ⟨512 + ch.val, by omega⟩ τ]
  generalize matmul (φ₁ := .bf16) (φ₂ := .bf16) dot_S1024x128_S128x256_S1024x256_1_0_0_1_n_n none w sw (constant S1024x256 .f32 0x00000000#32) = gb
  have e0 : extractStridedSlice S512x256 ![0, 0] gb slices_S1024x256_o0_0_S512x256 (ix2 ch τ) = gb (ix2 ⟨ch.val, by omega⟩ τ) :=
    extractStridedSlice_apply _ _ _ _ _ fun b => by
      match b with
      | ⟨0, _⟩ => exact (Nat.zero_add _).symm
      | ⟨1, _⟩ => exact (Nat.zero_add _).symm
  have e1 : extractStridedSlice S512x256 ![512, 0] gb slices_S1024x256_o512_0_S512x256 (ix2 ch τ) = gb (ix2 ⟨512 + ch.val, by omega⟩ τ) :=
    extractStridedSlice_apply _ _ _ _ _ fun b => by
      match b with
      | ⟨0, _⟩ => rfl
      | ⟨1, _⟩ => exact (Nat.zero_add _).symm
  show max ((Ideal.ofBits .f32 0x3F800000#32 - Ideal.div (Ideal.ofBits .f32 0x40000000#32)
      (Ideal.ofBits .f32 0x3F800000#32 + Ideal.exp (Ideal.ofBits .f32 0x40000000#32 * a * x (ix2 ch τ))))
        * (Ideal.ofBits .f32 0x3F800000#32 + extractStridedSlice S512x256 ![0, 0] gb slices_S1024x256_o0_0_S512x256 (ix2 ch τ))
        + extractStridedSlice S512x256 ![512, 0] gb slices_S1024x256_o512_0_S512x256 (ix2 ch τ))
      (Ideal.ofBits .f32 0x3E4CCCCD#32 * ((Ideal.ofBits .f32 0x3F800000#32 - Ideal.div (Ideal.ofBits .f32 0x40000000#32)
      (Ideal.ofBits .f32 0x3F800000#32 + Ideal.exp (Ideal.ofBits .f32 0x40000000#32 * a * x (ix2 ch τ))))
        * (Ideal.ofBits .f32 0x3F800000#32 + extractStridedSlice S512x256 ![0, 0] gb slices_S1024x256_o0_0_S512x256 (ix2 ch τ))
        + extractStridedSlice S512x256 ![512, 0] gb slices_S1024x256_o512_0_S512x256 (ix2 ch τ))) = _
  rw [e0, e1, Scalars.lit_one, Scalars.lit_two, Scalars.tanh_two, hc, Scalars.lrelu_max c h0 h1]
  unfold act leaky Net.slope
  rw [hc]

/-- A weight's leading unit axis dropped. -/
theorem drop_unit {α : Type} (w : S1x512x512.Idx → α) (r i : Fin 512) :
    shapeCast S512x512 w shapeCasts_S1x512x512_S512x512 (ix2 r i) = w (ix3 0 r i) :=
  (shapeCast_dropUnit_apply _ w shapeCasts_S1x512x512_S512x512 (ix2 r i)).trans (congrArg w (by
    funext b; match b with | ⟨0, _⟩ => rfl | ⟨1, _⟩ => rfl | ⟨2, _⟩ => rfl))

/-- The convolution block at an entry: the three taps' sums. -/
theorem convV_apply (w1 : FVec Ideal S1x512x512 .bf16) (h : FVec Ideal S512x256 .bf16) (w0 : FVec Ideal S1x512x512 .bf16)
    (hl : FVec Ideal S512x256 .bf16) (w2 : FVec Ideal S1x512x512 .bf16) (hr : FVec Ideal S512x256 .bf16) (ch : Fin 512) (τ : Fin 256) :
    convV w1 h w0 hl w2 hr (ix2 ch τ)
      = ((∑ i, w1 (ix3 0 ch i) * h (ix2 i τ)) + ∑ i, w0 (ix3 0 ch i) * hl (ix2 i τ)) + ∑ i, w2 (ix3 0 ch i) * hr (ix2 i τ) := by
  have hm (w : FVec Ideal S1x512x512 .bf16) (v : FVec Ideal S512x256 .bf16) :=
    mm_apply dot_S512x512_S512x256_S512x256_1_0_0_1_n_n rfl (shapeCast S512x512 w shapeCasts_S1x512x512_S512x512) v ch τ
  simp only [drop_unit] at hm
  rw [← hm w1, ← hm w0, ← hm w2]
  rfl

end Cert.Blocks
-- ==== Proof.Columns.lean ====
/- A buffer of `R` rows and 2048 columns filled by writes of column blocks: what it holds at an entry after one more write,
   and what a load of some columns reads. -/
module

public import Idealize.ShloMosaic.Lib.Pipeline.FrameBody
public import Idealize.ShloMosaic.Lib.Pointwise.Index

@[expose] public section

noncomputable section

namespace Cert.Columns

open Idealize.ShloMosaic

variable {Val : EltTy → Type} [∀ e, Nonempty (Val e)] {e : EltTy} {R : Nat}

/-- The buffer's shape. -/
abbrev Buf2 (R : Nat) : Shape := ⟨2, ![R, 2048]⟩

/-- `n` columns from column `k` on. -/
abbrev cols (R k n : Nat) (inb : ∀ a, (![0, k] : Fin 2 → Nat) a + (![R, n] : Fin 2 → Nat) a ≤ (Buf2 R).size a) : Rect (Buf2 R) :=
  Rect.unit (s := Buf2 R) ![0, k] ![R, n] inb

/-- After a write of `n` columns from `k` on, an entry in those columns holds the write's. -/
theorem canon_in {k n : Nat} {inb} (w : (cols R k n inb).shape.Idx → Val e) (L : List (View.Piece Val (Buf2 R) e)) (ch : Fin R) (t : Fin 2048)
    (τ : Fin n) (h : t.val = k + τ.val) : View.canon (⟨cols R k n inb, w⟩ :: L) (ix2 ch t) = w (ix2 ch τ) := by
  have hy : (cols R k n inb).emb (ix2 ch τ) = ix2 ch t := by
    funext b; apply Fin.ext
    match b with
    | ⟨0, _⟩ => show 0 + 1 * ch.val = ch.val; omega
    | ⟨1, _⟩ => show k + 1 * τ.val = t.val; omega
  rw [← hy]
  exact View.canon_cons_emb _ w L _

/-- An entry outside those columns holds what it held before. -/
theorem canon_out {k n : Nat} {inb} (w : (cols R k n inb).shape.Idx → Val e) (L : List (View.Piece Val (Buf2 R) e)) (ch : Fin R) (t : Fin 2048)
    (h : t.val < k ∨ k + n ≤ t.val) : View.canon (⟨cols R k n inb, w⟩ :: L) (ix2 ch t) = View.canon L (ix2 ch t) := by
  refine View.canon_cons_of_not_mem _ L fun hm => ?_
  have h1 := (Rect.mem_set_unit (inb := inb)).mp hm 1
  have e1 : k ≤ t.val ∧ t.val < k + n := h1
  omega

/-- A load of `n` columns from `k` on reads the buffer's entries there. -/
theorem load_apply {sig : RefSig} {κ : Kind} {sp : Space} (v : View sig κ sp (Buf2 R) e) (L : List (View.Piece Val (Buf2 R) e)) {k n : Nat} {inb}
    (ch : Fin R) (τ : Fin n) (t : Fin 2048) (h : t.val = k + τ.val) :
    v.readCov L (cols R k n inb).toLoadRect (ix2 ch τ) = View.canon L (ix2 ch t) := by
  rw [View.readCov_eq_canon']
  refine congrArg (View.canon L) ?_
  funext b; apply Fin.ext
  match b with
  | ⟨0, _⟩ => show 0 + 1 * ch.val = ch.val; omega
  | ⟨1, _⟩ => show k + 1 * τ.val = t.val; omega

/-- A block's entries are those of `G` at the columns from `k` on. -/
def Blk {n : Nat} (w : (⟨2, ![R, n]⟩ : Shape).Idx → Val e) (k : Nat) (G : Fin R → Fin 2048 → Val e) : Prop :=
  ∀ (ch : Fin R) (τ : Fin n) (t : Fin 2048), t.val = k + τ.val → w (ix2 ch τ) = G ch t

/-- The first `a` blocks of 256 columns hold `G`. -/
def Upto (L : List (View.Piece Val (Buf2 R) e)) (G : Fin R → Fin 2048 → Val e) (a : Nat) : Prop :=
  ∀ (ch : Fin R) (t : Fin 2048), t.val < 256 * a → View.canon L (ix2 ch t) = G ch t

/-- Nothing is asked before the first write. -/
theorem Upto.nil (G : Fin R → Fin 2048 → Val e) : Upto [] G 0 := fun _ t h => absurd h (by omega)

/-- Writing the next block of `G` makes one more block hold it. -/
theorem Upto.push {L : List (View.Piece Val (Buf2 R) e)} {G : Fin R → Fin 2048 → Val e} {a k : Nat} {inb}
    {w : (cols R k 256 inb).shape.Idx → Val e} (h : Upto L G a) (hk : k = 256 * a) (hw : Blk w k G) :
    Upto (⟨cols R k 256 inb, w⟩ :: L) G (a + 1) := fun ch t ht => by
  by_cases hlt : t.val < k
  · rw [canon_out w L ch t (.inl hlt)]; exact h ch t (by omega)
  · rw [canon_in w L ch t ⟨t.val - k, by omega⟩ (by show t.val = k + (t.val - k); omega)]
    exact hw ch _ t (by show t.val = k + (t.val - k); omega)

/-- A load inside the blocks that hold `G` reads `G`. -/
theorem Upto.load {L : List (View.Piece Val (Buf2 R) e)} {G : Fin R → Fin 2048 → Val e} {a : Nat} (h : Upto L G a)
    {sig : RefSig} {κ : Kind} {sp : Space} (v : View sig κ sp (Buf2 R) e) {k n : Nat} {inb} (hk : k + n ≤ 256 * a) :
    Blk (v.readCov L (cols R k n inb).toLoadRect) k G := fun ch τ t ht => by
  rw [load_apply v L ch τ t ht]; exact h ch t (by omega)

/-- A buffer in the middle of being overwritten: its first `b` blocks hold `G₂`, the following ones up to `a` hold `G₁`. -/
def Two (L : List (View.Piece Val (Buf2 R) e)) (G₁ G₂ : Fin R → Fin 2048 → Val e) (a b : Nat) : Prop :=
  ∀ (ch : Fin R) (t : Fin 2048), (t.val < 256 * b → View.canon L (ix2 ch t) = G₂ ch t)
    ∧ (256 * b ≤ t.val → t.val < 256 * a → View.canon L (ix2 ch t) = G₁ ch t)

/-- Nothing is asked before the first write. -/
theorem Two.nil (G₁ G₂ : Fin R → Fin 2048 → Val e) : Two [] G₁ G₂ 0 0 :=
  fun _ t => ⟨fun h => absurd h (by omega), fun _ h => absurd h (by omega)⟩

/-- Writing the next block of `G₁`. -/
theorem Two.push₁ {L : List (View.Piece Val (Buf2 R) e)} {G₁ G₂ : Fin R → Fin 2048 → Val e} {a b k : Nat} {inb}
    {w : (cols R k 256 inb).shape.Idx → Val e} (h : Two L G₁ G₂ a b) (hk : k = 256 * a) (hb : b ≤ a) (hw : Blk w k G₁) :
    Two (⟨cols R k 256 inb, w⟩ :: L) G₁ G₂ (a + 1) b := fun ch t => by
  by_cases hlt : t.val < k
  · rw [canon_out w L ch t (.inl hlt)]
    exact ⟨(h ch t).1, fun h1 _ => (h ch t).2 h1 (by omega)⟩
  · refine ⟨fun _ => absurd hlt (by omega), fun _ ht => ?_⟩
    rw [canon_in w L ch t ⟨t.val - k, by omega⟩ (by show t.val = k + (t.val - k); omega)]
    exact hw ch _ t (by show t.val = k + (t.val - k); omega)

/-- Overwriting the next block with `G₂`. -/
theorem Two.push₂ {L : List (View.Piece Val (Buf2 R) e)} {G₁ G₂ : Fin R → Fin 2048 → Val e} {a b k : Nat} {inb}
    {w : (cols R k 256 inb).shape.Idx → Val e} (h : Two L G₁ G₂ a b) (hk : k = 256 * b) (hw : Blk w k G₂) :
    Two (⟨cols R k 256 inb, w⟩ :: L) G₁ G₂ a (b + 1) := fun ch t => by
  by_cases hlt : t.val < k
  · rw [canon_out w L ch t (.inl hlt)]
    exact ⟨fun _ => (h ch t).1 (by omega), fun h1 _ => absurd hlt (by omega)⟩
  · by_cases hlt2 : k + 256 ≤ t.val
    · rw [canon_out w L ch t (.inr hlt2)]
      exact ⟨fun _ => absurd hlt2 (by omega), fun h1 h2 => (h ch t).2 (by omega) h2⟩
    · refine ⟨fun _ => ?_, fun _ _ => absurd hlt2 (by omega)⟩
      rw [canon_in w L ch t ⟨t.val - k, by omega⟩ (by show t.val = k + (t.val - k); omega)]
      exact hw ch _ t (by show t.val = k + (t.val - k); omega)

/-- A load inside the part that holds `G₁`. -/
theorem Two.load₁ {L : List (View.Piece Val (Buf2 R) e)} {G₁ G₂ : Fin R → Fin 2048 → Val e} {a b : Nat} (h : Two L G₁ G₂ a b)
    {sig : RefSig} {κ : Kind} {sp : Space} (v : View sig κ sp (Buf2 R) e) {k n : Nat} {inb} (h0 : 256 * b ≤ k) (h1 : k + n ≤ 256 * a) :
    Blk (v.readCov L (cols R k n inb).toLoadRect) k G₁ := fun ch τ t ht => by
  rw [load_apply v L ch τ t ht]; exact (h ch t).2 (by omega) (by omega)

/-- A load inside the part that holds `G₂`. -/
theorem Two.load₂ {L : List (View.Piece Val (Buf2 R) e)} {G₁ G₂ : Fin R → Fin 2048 → Val e} {a b : Nat} (h : Two L G₁ G₂ a b)
    {sig : RefSig} {κ : Kind} {sp : Space} (v : View sig κ sp (Buf2 R) e) {k n : Nat} {inb} (h1 : k + n ≤ 256 * b) :
    Blk (v.readCov L (cols R k n inb).toLoadRect) k G₂ := fun ch τ t ht => by
  rw [load_apply v L ch τ t ht]; exact (h ch t).1 (by omega)

end Cert.Columns
-- ==== Proof.Steps.lean ====
/- The kernel's steps on whole blocks: where the blocks a step loads hold the columns of some signals, the block it stores
   holds the columns of the next signal. -/
module

public import proofs.«01_k».proof.Proof.Blocks
public import proofs.«01_k».proof.Proof.Columns

@[expose] public section

noncomputable section

namespace Cert.Steps

open Idealize.ShloMosaic Cert.KernelIdeal Cert.KernelIdeal.Gen Cert.Net Cert.Blocks Cert.Columns

/-- The modulation the layer's matrix makes of the style signal, rows `o, o + 1, …` of the matrix. -/
def modul (w : FVec Ideal S1024x128 .bf16) (sw : Sig 128) (o : Nat) (ho : o ≤ 512) : Sig 512 :=
  fun ch t => ∑ k, w (ix2 (⟨o + ch.val, by omega⟩ : Fin 1024) k) * sw k t

/-- The activation block is the layer's columns. -/
theorem aff_blk {a : EReal} {w : FVec Ideal S1024x128 .bf16} {sw : FVec Ideal S128x256 .bf16} {x : FVec Ideal S512x256 .f32} {k : Nat}
    {SW : Sig 128} {X : Sig 512} (hsw : Blk (Val := Elt Ideal) (e := .bf16) sw k SW) (hx : Blk (Val := Elt Ideal) (e := .f32) x k X) :
    Blk (Val := Elt Ideal) (e := .bf16) (affV (Scalar.mulf (Scalar.ofBits .f32 0x40000000#32) a) w sw x) k
      (layer a X (modul w SW 0 (by omega)) (modul w SW 512 (by omega))) := fun ch τ t ht => by
  rw [affV_apply]
  unfold layer modul
  have e0 : (⟨ch.val, by omega⟩ : Fin 1024) = ⟨0 + ch.val, by omega⟩ := Fin.ext (Nat.zero_add _).symm
  rw [hx ch τ t ht, e0]
  simp only [fun k => hsw k τ t ht]

/-- A convolution weight's slab held by a block. -/
def Slab (w : FVec Ideal S1x512x512 .bf16) (W : Fin 512 → Fin 512 → EReal) : Prop := ∀ r i, w (ix3 0 r i) = W r i

/-- The convolution block is the convolution's columns. -/
theorem conv_blk {w1 w0 w2 : FVec Ideal S1x512x512 .bf16} {h hl hr : FVec Ideal S512x256 .bf16} {k : Nat} {W : Fin 3 → Fin 512 → Fin 512 → EReal}
    {G : Sig 512} (hw1 : Slab w1 (W 1)) (hw0 : Slab w0 (W 0)) (hw2 : Slab w2 (W 2))
    (hh : Blk (Val := Elt Ideal) (e := .bf16) h k G) (hhl : Blk (Val := Elt Ideal) (e := .bf16) hl k (earlier G))
    (hhr : Blk (Val := Elt Ideal) (e := .bf16) hr k (later G)) :
    Blk (Val := Elt Ideal) (e := .f32) (convV w1 h w0 hl w2 hr) k (conv W G) := fun ch τ t ht => by
  rw [convV_apply]
  unfold conv
  simp only [fun i => hh i τ t ht, fun i => hhl i τ t ht, fun i => hhr i τ t ht, fun i => hw0 ch i, fun i => hw1 ch i, fun i => hw2 ch i]

/-- Columns loaded one earlier hold the signal one step earlier. -/
theorem earlier_blk {h : FVec Ideal S512x256 .bf16} {k k' : Nat} {G : Sig 512} (hh : Blk (Val := Elt Ideal) (e := .bf16) h k' G)
    (hk : k = k' + 1) : Blk (Val := Elt Ideal) (e := .bf16) h k (earlier G) := fun ch τ t ht => by
  unfold earlier
  rw [if_neg (by omega)]
  exact hh ch τ _ (by show t.val - 1 = k' + τ.val; omega)

/-- Columns loaded one later hold the signal one step later. -/
theorem later_blk {h : FVec Ideal S512x256 .bf16} {k k' : Nat} {G : Sig 512} (hh : Blk (Val := Elt Ideal) (e := .bf16) h k' G)
    (hk : k' = k + 1) (hb : k + 256 < 2048) : Blk (Val := Elt Ideal) (e := .bf16) h k (later G) := fun ch τ t ht => by
  unfold later
  rw [dif_pos (by have := τ.isLt; omega)]
  exact hh ch τ _ (by show t.val + 1 = k' + τ.val; omega)

/-- The first block's earlier columns: a zero column, then the first 255. -/
theorem earlier_edge {h : FVec Ideal S512x255 .bf16} {G : Sig 512} (hh : Blk (Val := Elt Ideal) (e := .bf16) h 0 G) :
    Blk (Val := Elt Ideal) (e := .bf16) (concatenate S512x256 1 [⟨S512x1, broadcast S512x1 (Scalar.ofBits (F := Ideal) .bf16 0x0000#16)⟩, ⟨S512x255, h⟩]
      concatenates_S512x1_S512x255_S512x256_d1) 0 (earlier G) := fun ch τ t ht => by
  unfold earlier
  by_cases h0 : t.val = 0
  · rw [if_pos h0]
    refine (concatenate_pair_apply_left (t := S512x256) (s₁ := S512x1) (s₂ := S512x255) 1 (broadcast S512x1 (Scalar.ofBits (F := Ideal) .bf16 0x0000#16)) h _ _ rfl (ix2 ch (0 : Fin 1)) fun b => ?_).trans Scalars.lit_zero_bf16
    match b with
    | ⟨0, _⟩ => rfl
    | ⟨1, _⟩ => show 0 = τ.val; omega
  · rw [if_neg h0]
    refine (concatenate_pair_apply_right (t := S512x256) (s₁ := S512x1) (s₂ := S512x255) 1 (broadcast S512x1 (Scalar.ofBits (F := Ideal) .bf16 0x0000#16)) h _ _ rfl rfl (ix2 ch (⟨τ.val - 1, by have := τ.isLt; omega⟩ : Fin 255)) (fun b hb => ?_) ?_).trans
      (hh ch _ ⟨t.val - 1, by omega⟩ (by show t.val - 1 = 0 + (τ.val - 1); omega))
    · match b with
      | ⟨0, _⟩ => rfl
      | ⟨1, _⟩ => exact absurd rfl hb
    · show τ.val - 1 + 1 = τ.val; omega

/-- The last block's later columns: the last 255, then a zero column. -/
theorem later_edge {h : FVec Ideal S512x255 .bf16} {G : Sig 512} (hh : Blk (Val := Elt Ideal) (e := .bf16) h 1793 G) :
    Blk (Val := Elt Ideal) (e := .bf16) (concatenate S512x256 1 [⟨S512x255, h⟩, ⟨S512x1, broadcast S512x1 (Scalar.ofBits (F := Ideal) .bf16 0x0000#16)⟩]
      concatenates_S512x255_S512x1_S512x256_d1) 1792 (later G) := fun ch τ t ht => by
  unfold later
  by_cases h0 : t.val + 1 < 2048
  · rw [dif_pos h0]
    refine (concatenate_pair_apply_left (t := S512x256) (s₁ := S512x255) (s₂ := S512x1) 1 h (broadcast S512x1 (Scalar.ofBits (F := Ideal) .bf16 0x0000#16)) _ _ rfl (ix2 ch (⟨τ.val, by omega⟩ : Fin 255)) fun b => ?_).trans
      (hh ch _ ⟨t.val + 1, h0⟩ (by show t.val + 1 = 1793 + τ.val; omega))
    match b with
    | ⟨0, _⟩ => rfl
    | ⟨1, _⟩ => rfl
  · rw [dif_neg h0]
    refine (concatenate_pair_apply_right (t := S512x256) (s₁ := S512x255) (s₂ := S512x1) 1 h (broadcast S512x1 (Scalar.ofBits (F := Ideal) .bf16 0x0000#16)) _ _ rfl rfl (ix2 ch (0 : Fin 1)) (fun b hb => ?_) ?_).trans Scalars.lit_zero_bf16
    · match b with
      | ⟨0, _⟩ => rfl
      | ⟨1, _⟩ => exact absurd rfl hb
    · show 0 + 255 = τ.val; have := τ.isLt; omega

/-- A convolution block as it is stored to the scratch. -/
theorem stored_blk {v : FVec Ideal S512x256 .f32} {k : Nat} {G : Sig 512} (h : Blk (Val := Elt Ideal) (e := .f32) v k G) :
    Blk (Val := Elt Ideal) (e := .f32) (shapeCast S512x256 v shapeCasts_S512x256_S512x256) k G := by
  rw [shapeCast_self]; exact h

/-- The input block with its leading unit axis dropped. -/
theorem input_blk {v : FVec Ideal S1x512x256 .f32} {k : Nat} {G : Sig 512}
    (h : ∀ (ch : Fin 512) (τ : Fin 256) (t : Fin 2048), t.val = k + τ.val → v (ix3 0 ch τ) = G ch t) :
    Blk (Val := Elt Ideal) (e := .f32) (shapeCast S512x256 v shapeCasts_S1x512x256_S512x256) k G := fun ch τ t ht =>
  ((shapeCast_dropUnit_apply _ v shapeCasts_S1x512x256_S512x256 (ix2 ch τ)).trans (congrArg v (by
    funext b; match b with | ⟨0, _⟩ => rfl | ⟨1, _⟩ => rfl | ⟨2, _⟩ => rfl))).trans (h ch τ t ht)

end Cert.Steps
-- ==== Proof.Window.lean ====
/- Windowed sums along a row of 2048 entries, and the two ways the programs take them: as a difference of two running sums
   over the padded row, and as a sum over the entries the band matrix keeps. -/
module

public import Idealize.ShloMosaic.Lib.ValueIdx
public import Idealize.ShloMosaic.PureOps.Ideal.Laws

@[expose] public section

noncomputable section

namespace Cert.Window

open Idealize.ShloMosaic Idealize.ShloMosaic.ValueIdx

/-- The sum of the row's entries at distance at most 18 from `t`. -/
def win (f : Fin 2048 → EReal) (t : Fin 2048) : EReal :=
  ∑ i : Fin 2048, if t.val ≤ i.val + 18 ∧ i.val ≤ t.val + 18 then f i else 0

/-- The same for a row of reals. -/
def winR (f : Fin 2048 → ℝ) (t : Fin 2048) : ℝ :=
  ∑ i : Fin 2048, if t.val ≤ i.val + 18 ∧ i.val ≤ t.val + 18 then f i else 0

/-- A finite sum of reals taken in the extended reals is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The window sum of a row of reals is real. -/
theorem win_coe (f : Fin 2048 → ℝ) (t : Fin 2048) : win (fun i => (f i : EReal)) t = (winR f t : EReal) := by
  unfold win winR
  rw [coe_sum]
  refine Finset.sum_congr rfl fun i _ => ?_
  split <;> simp

/-- A left fold of additions is the sum. -/
theorem foldl_add {ι : Type*} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- Indices of a `1 × 1 × N` block are the numbers below `N`. -/
def lastEquiv (N : Nat) : (⟨3, ![1, 1, N]⟩ : Shape).Idx ≃ Fin N where
  toFun w := w 2
  invFun n := ix3 (0 : Fin 1) (0 : Fin 1) n
  left_inv w := by
    refine (congrArg₂ (fun a b => ix3 a b (w 2)) (Subsingleton.elim (α := Fin 1) _ _) (Subsingleton.elim (α := Fin 1) _ _)).trans (eq_ix3 w).symm
  right_inv n := rfl

/-- The running sum along the last axis, as it prints (a window of the whole length, padded low by one less): entry `(a, b, j)`
    is the sum of the row's entries up to and including `j`. -/
theorem cumsum_last {A C M : Nat} (x : (⟨3, ![A, C, M + 1]⟩ : Shape).Idx → EReal)
    (h : (⟨3, ![A, C, M + 1]⟩ : Shape).ReduceWindows (![1, 1, M + 1] : Fin 3 → Nat) ![1, 1, 1] ![0, 0, M] ![0, 0, 0] ⟨3, ![A, C, M + 1]⟩)
    (f : Nat → EReal) (a : Fin A) (b : Fin C) (hf : ∀ i : Fin (M + 1), x (ix3 a b i) = f i.val) (j : Fin (M + 1)) :
    Ideal.hostReduceWindowAdd ![1, 1, M + 1] ![1, 1, 1] ![0, 0, M] ![0, 0, 0] h x 0 (ix3 a b j)
      = ∑ i ∈ Finset.range (j.val + 1), f i := by
  have hj := j.isLt
  have ha := a.isLt
  have hb := b.isLt
  unfold Ideal.hostReduceWindowAdd Host.reduceWindow
  rw [foldl_add, zero_add, ← List.ofFn_eq_map, List.sum_ofFn]
  -- the summand at window position `w`, as a function of the position alone
  have key : ∀ w : (⟨3, ![1, 1, M + 1]⟩ : Shape).Idx,
      (if hin : ∀ c : Fin 3, (![0, 0, M] : Fin 3 → Nat) c ≤ ((ix3 a b j : (⟨3, ![A, C, M + 1]⟩ : Shape).Idx) c).val * (![1, 1, 1] : Fin 3 → Nat) c + (w c).val
          ∧ ((ix3 a b j : (⟨3, ![A, C, M + 1]⟩ : Shape).Idx) c).val * (![1, 1, 1] : Fin 3 → Nat) c + (w c).val - (![0, 0, M] : Fin 3 → Nat) c < (⟨3, ![A, C, M + 1]⟩ : Shape).size c
        then x (fun c => ⟨((ix3 a b j : (⟨3, ![A, C, M + 1]⟩ : Shape).Idx) c).val * (![1, 1, 1] : Fin 3 → Nat) c + (w c).val - (![0, 0, M] : Fin 3 → Nat) c, (hin c).2⟩)
        else (0 : EReal))
      = if M ≤ j.val + (lastEquiv (M + 1) w).val then f (j.val + (lastEquiv (M + 1) w).val - M) else 0 := by
    intro w
    have hw0 : (w 0).val = 0 := by have := (w 0).isLt; change (w 0).val < 1 at this; omega
    have hw1 : (w 1).val = 0 := by have := (w 1).isLt; change (w 1).val < 1 at this; omega
    have hw2 : (w 2).val < M + 1 := (w 2).isLt
    change _ = if M ≤ j.val + (w 2).val then f (j.val + (w 2).val - M) else 0
    split
    · next hin =>
      have h2 := (hin 2).1
      change M ≤ j.val * 1 + (w 2).val at h2
      rw [if_pos (by omega)]
      refine (congrArg x (funext fun c => Fin.ext ?_)).trans (hf ⟨j.val + (w 2).val - M, by omega⟩)
      match c with
      | ⟨0, _⟩ => show a.val * 1 + (w 0).val - 0 = a.val; omega
      | ⟨1, _⟩ => show b.val * 1 + (w 1).val - 0 = b.val; omega
      | ⟨2, _⟩ => show j.val * 1 + (w 2).val - M = j.val + (w 2).val - M; omega
    · next hin =>
      rw [if_neg fun hle => hin fun c => by
        match c with
        | ⟨0, _⟩ => show 0 ≤ a.val * 1 + (w 0).val ∧ a.val * 1 + (w 0).val - 0 < A; omega
        | ⟨1, _⟩ => show 0 ≤ b.val * 1 + (w 1).val ∧ b.val * 1 + (w 1).val - 0 < C; omega
        | ⟨2, _⟩ => show M ≤ j.val * 1 + (w 2).val ∧ j.val * 1 + (w 2).val - M < M + 1; omega]
  refine (Finset.sum_congr rfl fun n _ => key _).trans ?_
  rw [Equiv.sum_comp (⟨3, ![1, 1, M + 1]⟩ : Shape).rowMajor.symm
      (fun w => if M ≤ j.val + (lastEquiv (M + 1) w).val then f (j.val + (lastEquiv (M + 1) w).val - M) else 0),
    Equiv.sum_comp (lastEquiv (M + 1)) (fun n => if M ≤ j.val + n.val then f (j.val + n.val - M) else 0),
    Fin.sum_univ_eq_sum_range (fun n => if M ≤ j.val + n then f (j.val + n - M) else 0) (M + 1), ← Finset.sum_filter]
  refine Finset.sum_nbij' (fun n => j.val + n - M) (fun i => i + M - j.val) ?_ ?_ ?_ ?_ ?_
  · intro n hn; simp only [Finset.mem_filter, Finset.mem_range] at hn ⊢; omega
  · intro i hi; simp only [Finset.mem_filter, Finset.mem_range] at hi ⊢; omega
  · intro n hn; simp only [Finset.mem_filter, Finset.mem_range] at hn; omega
  · intro i hi; simp only [Finset.mem_range] at hi; omega
  · intro n _; rfl

/-- Two running sums of a finite padded row, 37 apart, differ by the window sum: `f` is the row with 18 zeros before it. -/
theorem range_sub (f : Fin 2048 → ℝ) (g : Nat → EReal)
    (hg : ∀ i, g i = if h : 18 ≤ i ∧ i - 18 < 2048 then (f ⟨i - 18, h.2⟩ : EReal) else 0) (t : Fin 2048) :
    (∑ i ∈ Finset.range (t.val + 37), g i) - ∑ i ∈ Finset.range t.val, g i = (winR f t : EReal) := by
  have ht := t.isLt
  set r : Nat → ℝ := fun i => if h : 18 ≤ i ∧ i - 18 < 2048 then f ⟨i - 18, h.2⟩ else 0 with hr
  have hgr : ∀ i, g i = (r i : EReal) := fun i => by
    rw [hg i, hr]; dsimp only; split <;> simp
  simp only [hgr, ← coe_sum, ← EReal.coe_sub]
  congr 1
  rw [← Finset.sum_range_add_sum_Ico r (Nat.le_add_right t.val 37), add_sub_cancel_left]
  unfold winR
  rw [← Finset.sum_filter]
  symm
  refine Finset.sum_bij_ne_zero (fun i _ _ => i.val + 18) ?_ ?_ ?_ ?_
  · intro i hi _; simp only [Finset.mem_filter, Finset.mem_univ, true_and, Finset.mem_Ico] at hi ⊢; omega
  · intro i _ _ i' _ _ h; exact Fin.ext (by omega)
  · intro n hn h0
    simp only [Finset.mem_Ico] at hn
    have hc : 18 ≤ n ∧ n - 18 < 2048 := by
      by_contra hc; exact h0 (by rw [hr]; dsimp only; rw [dif_neg hc])
    refine ⟨⟨n - 18, hc.2⟩, ?_, ?_, ?_⟩
    · simp only [Finset.mem_filter, Finset.mem_univ, true_and]; omega
    · intro hz; apply h0; rw [hr]; dsimp only; rw [dif_pos hc]; exact hz
    · show n - 18 + 18 = n; omega
  · intro i _ _
    rw [hr]; dsimp only
    rw [dif_pos ⟨by omega, by have := i.isLt; omega⟩]
    rfl

/-- A sum over the `n` columns starting at `lo` of the row's entries the band keeps is the window sum at `t`, when every
    column at distance at most 18 from `t` is among them. -/
theorem band_sum {n : Nat} (lo : Nat) (hlo : lo + n ≤ 2048) (f : Fin 2048 → EReal) (w : Fin n → EReal) (t : Fin 2048)
    (h0 : lo ≤ t.val - 18) (h1 : t.val + 18 < lo + n ∨ lo + n = 2048)
    (hw : ∀ m : Fin n, w m = if t.val ≤ lo + m.val + 18 ∧ lo + m.val ≤ t.val + 18 then 1 else 0) :
    ∑ m : Fin n, f ⟨lo + m.val, by have := m.isLt; omega⟩ * w m = win f t := by
  unfold win
  rw [← Finset.sum_filter]
  have e : ∀ m : Fin n, f ⟨lo + m.val, by have := m.isLt; omega⟩ * w m
      = if t.val ≤ lo + m.val + 18 ∧ lo + m.val ≤ t.val + 18 then f ⟨lo + m.val, by have := m.isLt; omega⟩ else 0 := fun m => by
    rw [hw m]; split <;> simp
  simp only [e]
  rw [← Finset.sum_filter]
  refine Finset.sum_bij (fun m _ => ⟨lo + m.val, by have := m.isLt; omega⟩) ?_ ?_ ?_ ?_
  · intro m hm; simpa using hm
  · intro m _ m' _ h; exact Fin.ext (by have := congrArg Fin.val h; dsimp only at this; omega)
  · intro i hi
    simp only [Finset.mem_filter, Finset.mem_univ, true_and] at hi
    have := i.isLt
    exact ⟨⟨i.val - lo, by omega⟩, by simp only [Finset.mem_filter, Finset.mem_univ, true_and]; omega, Fin.ext (by show lo + (i.val - lo) = i.val; omega)⟩
  · intro m _; rfl

end Cert.Window

end
-- ==== Proof.Style.lean ====
/- The style signal: the window average of the style vectors under the row's length mask, and how the kernel computes its
   weight from the row's length alone. -/
module

public import proofs.«01_k».proof.Proof.Steps
public import proofs.«01_k».proof.Proof.Window

@[expose] public section

noncomputable section

namespace Cert.Style

open Idealize.ShloMosaic Cert.KernelIdeal Cert.KernelIdeal.Gen Cert.Net Cert.Blocks Cert.Columns Cert.Window

/-- The length mask: one before the row's length, zero from it on. -/
def mask (ln : BitVec 32) : Fin 2048 → EReal := fun t => if (t.val : ℤ) < ln.toInt then 1 else 0

/-- The small constant added to the window's count. -/
def eps : EReal := Ideal.ofBits .f32 0x3089705F#32

/-- The weight of a column: the mask over the number of unmasked columns in its window. -/
def weight (ln : BitVec 32) (t : Fin 2048) : EReal := Ideal.div (mask ln t) (win (mask ln) t + eps)

/-- The style signal. -/
def style (s : Sig 128) (ln : BitVec 32) : Sig 128 := fun k t => win (s k) t * weight ln t

/-! ## The window's count -/

/-- The window's count as a number: from the window's first column to the last unmasked one. -/
def count (L : ℤ) (t : ℕ) : ℤ := max (min (min ((t : ℤ) + 18) 2047) (L - 1) - max ((t : ℤ) - 18) 0 + 1) 0

/-- The window sum of the mask is the count. -/
theorem win_mask (ln : BitVec 32) (t : Fin 2048) : win (mask ln) t = (((count ln.toInt t.val : ℤ) : ℝ) : EReal) := by
  have e : mask ln = fun i => (((if (i.val : ℤ) < ln.toInt then 1 else 0 : ℝ)) : EReal) := by
    funext i; unfold mask; split <;> simp
  rw [e, win_coe]
  congr 1
  unfold winR
  have h1 : ∀ i : Fin 2048, (if t.val ≤ i.val + 18 ∧ i.val ≤ t.val + 18 then (if (i.val : ℤ) < ln.toInt then (1 : ℝ) else 0) else 0)
      = if t.val ≤ i.val + 18 ∧ i.val ≤ t.val + 18 ∧ (i.val : ℤ) < ln.toInt then 1 else 0 := fun i => by
    by_cases h1 : t.val ≤ i.val + 18 <;> by_cases h2 : i.val ≤ t.val + 18 <;> by_cases h3 : (i.val : ℤ) < ln.toInt <;> simp [h1, h2, h3]
  simp only [h1]
  rw [Fin.sum_univ_eq_sum_range (fun i => if t.val ≤ i + 18 ∧ i ≤ t.val + 18 ∧ (i : ℤ) < ln.toInt then (1 : ℝ) else 0) 2048,
    Finset.sum_boole]
  have ht := t.isLt
  have h2 : (Finset.range 2048).filter (fun i : ℕ => t.val ≤ i + 18 ∧ i ≤ t.val + 18 ∧ (i : ℤ) < ln.toInt)
      = Finset.Ico (t.val - 18) (min (min (t.val + 19) 2048) ln.toInt.toNat) := by
    ext i; simp only [Finset.mem_filter, Finset.mem_range, Finset.mem_Ico]; omega
  rw [h2, Nat.card_Ico]
  have h3 : ((min (min (t.val + 19) 2048) ln.toInt.toNat - (t.val - 18) : ℕ) : ℤ) = count ln.toInt t.val := by
    unfold count; omega
  rw [← h3]; push_cast; rfl

/-- A count is not negative. -/
theorem count_nonneg (L : ℤ) (t : ℕ) : 0 ≤ count L t := le_max_right _ _

/-! ## The kernel's words -/

/-- The larger of two words is the larger of their integers. -/
theorem toInt_maxsi (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

/-- The smaller of two words is the smaller of their integers. -/
theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- A sum of words that does not overflow. -/
theorem toInt_add {x y : BitVec 32} (h : -2147483648 ≤ x.toInt + y.toInt ∧ x.toInt + y.toInt < 2147483648) :
    (x + y).toInt = x.toInt + y.toInt := by
  rw [BitVec.toInt_add]; apply Int.bmod_eq_of_le <;> omega

/-- A difference of words that does not overflow. -/
theorem toInt_sub {x y : BitVec 32} (h : -2147483648 ≤ x.toInt - y.toInt ∧ x.toInt - y.toInt < 2147483648) :
    (x - y).toInt = x.toInt - y.toInt := by
  rw [BitVec.toInt_sub]; apply Int.bmod_eq_of_le <;> omega

/-- The word the kernel converts to the count. -/
def countWord (ln T : BitVec 32) : BitVec 32 :=
  IntOp.maxsi (IntOp.minsi (IntOp.minsi (T + 18#32) 2047#32) (ln - 1#32) - IntOp.maxsi (T - 18#32) 0#32 + 1#32) 0#32

/-- A column as a word is its number. -/
theorem toInt_col (t : Fin 2048) : (BitVec.ofNat 32 t.val).toInt = (t.val : ℤ) := by
  have h : t.val % 2 ^ 32 = t.val := Nat.mod_eq_of_lt (by have := t.isLt; omega)
  rw [BitVec.toInt_eq_toNat_of_lt (by rw [BitVec.toNat_ofNat, h]; have := t.isLt; omega), BitVec.toNat_ofNat, h]

/-- On an unmasked column it is the window's count. -/
theorem countWord_eq (ln : BitVec 32) (t : Fin 2048) (h : (t.val : ℤ) < ln.toInt) :
    (countWord ln (BitVec.ofNat 32 t.val)).toInt = count ln.toInt t.val := by
  have ht := t.isLt
  have hT := toInt_col t
  have hl : ln.toInt < 2147483648 := by have := BitVec.toInt_lt (x := ln); omega
  have c18 : (18#32 : BitVec 32).toInt = 18 := rfl
  have c0 : (0#32 : BitVec 32).toInt = 0 := rfl
  have c1 : (1#32 : BitVec 32).toInt = 1 := rfl
  have c2 : (2047#32 : BitVec 32).toInt = 2047 := rfl
  have e1 : (BitVec.ofNat 32 t.val + 18#32).toInt = (t.val : ℤ) + 18 := by rw [toInt_add (by omega), hT, c18]
  have e2 : (BitVec.ofNat 32 t.val - 18#32).toInt = (t.val : ℤ) - 18 := by rw [toInt_sub (by omega), hT, c18]
  have e3 : (ln - 1#32).toInt = ln.toInt - 1 := by rw [toInt_sub (by omega), c1]
  have e4 : (IntOp.minsi (IntOp.minsi (BitVec.ofNat 32 t.val + 18#32) 2047#32) (ln - 1#32)).toInt
      = min (min ((t.val : ℤ) + 18) 2047) (ln.toInt - 1) := by rw [toInt_minsi, toInt_minsi, e1, e3, c2]
  have e5 : (IntOp.maxsi (BitVec.ofNat 32 t.val - 18#32) 0#32).toInt = max ((t.val : ℤ) - 18) 0 := by rw [toInt_maxsi, e2, c0]
  have e6 : (IntOp.minsi (IntOp.minsi (BitVec.ofNat 32 t.val + 18#32) 2047#32) (ln - 1#32)
      - IntOp.maxsi (BitVec.ofNat 32 t.val - 18#32) 0#32).toInt
      = min (min ((t.val : ℤ) + 18) 2047) (ln.toInt - 1) - max ((t.val : ℤ) - 18) 0 := by
    rw [toInt_sub (by omega), e4, e5]
  unfold countWord count
  rw [toInt_maxsi, toInt_add (by omega), e6, c1, c0]

/-- The word of a count is not negative. -/
theorem countWord_nonneg (ln T : BitVec 32) : 0 ≤ (countWord ln T).toInt := by
  unfold countWord
  rw [toInt_maxsi]
  exact le_max_right _ _

/-- A nonnegative integer plus the small constant is a positive real. -/
theorem denom (z : ℤ) (hz : 0 ≤ z) : ∃ d : ℝ, 0 < d ∧ (((z : ℝ) : EReal) + eps) = (d : EReal) := by
  obtain ⟨e, he, hE⟩ := Scalars.lit_eps
  refine ⟨(z : ℝ) + e, ?_, ?_⟩
  · have : (0 : ℝ) ≤ (z : ℝ) := by exact_mod_cast hz
    linarith
  · unfold eps; rw [hE, EReal.coe_add]

/-- The kernel's row of weights, read at a column. -/
theorem row_apply (ln : BitVec 32) (t : Fin 2048) : k0_pay2 (F := Ideal) ln (ix2 0 t) = weight ln t := by
  have h0 : k0_pay2 (F := Ideal) ln (ix2 0 t)
      = Ideal.div ((((IntOp.cmpi .slt (BitVec.ofNat 32 (0 * 2048 + t.val)) ln).setWidth 32).toInt : ℝ) : EReal)
          ((((countWord ln (BitVec.ofNat 32 (0 * 2048 + t.val))).toInt : ℝ) : EReal) + eps) := rfl
  rw [h0, Nat.zero_mul, Nat.zero_add]
  unfold weight
  rw [win_mask]
  unfold mask
  by_cases h : (t.val : ℤ) < ln.toInt
  · rw [if_pos h, countWord_eq ln t h]
    congr 1
    have hs : (BitVec.ofNat 32 t.val).slt ln = true := by rw [BitVec.slt_iff_toInt_lt, toInt_col]; exact h
    rw [show IntOp.cmpi .slt (BitVec.ofNat 32 t.val) ln = BitVec.ofBool ((BitVec.ofNat 32 t.val).slt ln) from rfl, hs,
      show ((BitVec.ofBool true).setWidth 32).toInt = 1 from rfl, Int.cast_one, EReal.coe_one]
  · rw [if_neg h]
    have hs : (BitVec.ofNat 32 t.val).slt ln = false := by
      rw [Bool.eq_false_iff]; intro hb; rw [BitVec.slt_iff_toInt_lt, toInt_col] at hb; exact h hb
    obtain ⟨d, hd, e⟩ := denom _ (countWord_nonneg ln (BitVec.ofNat 32 t.val))
    obtain ⟨d', hd', e'⟩ := denom _ (count_nonneg ln.toInt t.val)
    rw [e, e', Ideal.div_coe hd.ne', Ideal.div_coe hd'.ne', zero_mul]
    rw [show IntOp.cmpi .slt (BitVec.ofNat 32 t.val) ln = BitVec.ofBool ((BitVec.ofNat 32 t.val).slt ln) from rfl, hs,
      show ((BitVec.ofBool false).setWidth 32).toInt = 0 from rfl, Int.cast_zero, EReal.coe_zero, zero_mul]

/-! ## The kernel's blocks of the style signal -/

/-- A slice of columns at an entry. -/
theorem cols_apply {R N n o : Nat} {e : EltTy} (v : (⟨2, ![R, N]⟩ : Shape).Idx → Elt Ideal e) (h) (r : Fin R) (m : Fin n) (j : Fin N)
    (hj : j.val = o + m.val) : extractStridedSlice (⟨2, ![R, n]⟩ : Shape) ![0, o] v h (ix2 r m) = v (ix2 r j) := by
  refine extractStridedSlice_apply _ v h (ix2 r m) (ix2 r j) fun b => ?_
  match b with
  | ⟨0, _⟩ => show r.val = 0 + r.val; omega
  | ⟨1, _⟩ => exact hj

/-- A slice of rows at an entry. -/
theorem rows_apply {R N n o : Nat} {e : EltTy} (v : (⟨2, ![R, N]⟩ : Shape).Idx → Elt Ideal e) (h) (r : Fin n) (m : Fin N) (j : Fin R)
    (hj : j.val = o + r.val) : extractStridedSlice (⟨2, ![n, N]⟩ : Shape) ![o, 0] v h (ix2 r m) = v (ix2 j m) := by
  refine extractStridedSlice_apply _ v h (ix2 r m) (ix2 j m) fun b => ?_
  match b with
  | ⟨0, _⟩ => exact hj
  | ⟨1, _⟩ => show m.val = 0 + m.val; omega

/-- A block of columns against the band, scaled by the weights, is the style signal's columns. -/
theorem style_blk {n lo bo k : Nat} (d : DotDims ⟨2, ![128, n]⟩ ⟨2, ![n, 256]⟩ ⟨2, ![128, 256]⟩) (hd : d = DotDims.plain 128 n 256)
    {A : FVec Ideal ⟨2, ![128, n]⟩ .bf16} {B : FVec Ideal ⟨2, ![n, 256]⟩ .bf16} {ρ : FVec Ideal S1x2048 .f32} {S : Sig 128} {ln : BitVec 32}
    (hn : lo + n ≤ 2048) (hb : lo + 128 = k + bo) (h0 : lo = 0 ∨ lo + 18 ≤ k) (h1 : k + 273 < lo + n ∨ lo + n = 2048)
    (hA : ∀ c (m : Fin n), A (ix2 c m) = S c ⟨lo + m.val, by omega⟩)
    (hB : ∀ (m : Fin n) (τ : Fin 256), B (ix2 m τ) = if τ.val + 110 ≤ bo + m.val ∧ bo + m.val ≤ τ.val + 146 then 1 else 0)
    (hρ : ∀ t, ρ (ix2 0 t) = weight ln t) (s₁ s₂ s₃ s₄) :
    Blk (Val := Elt Ideal) (e := .bf16) (shapeCast S128x256 (truncf .bf16 (mulf (matmul (φ₁ := .bf16) (φ₂ := .bf16) d none A B (constant S128x256 .f32 0x00000000#32))
      (broadcastTo S128x256 (extractStridedSlice S1x256 ![0, k] ρ s₁) s₂)) s₃) s₄) k (style S ln) := fun c τ t ht => by
  rw [shapeCast_self]
  have hτ := τ.isLt
  have htl := t.isLt
  have e1 : matmul (φ₁ := .bf16) (φ₂ := .bf16) d none A B (constant S128x256 .f32 0x00000000#32) (ix2 c τ) = win (S c) t := by
    refine (mm_apply d hd A B c τ).trans ?_
    simp only [fun m => hA c m]
    refine band_sum lo hn (S c) (fun m => B (ix2 m τ)) t (by omega) (by omega) fun m => ?_
    rw [hB m τ]
    refine if_congr ?_ rfl rfl
    omega
  have e2 : broadcastTo S128x256 (extractStridedSlice S1x256 ![0, k] ρ s₁) s₂ (ix2 c τ) = weight ln t := by
    refine (broadcastTo_apply _ s₂ (ix2 c τ) (ix2 (0 : Fin 1) τ) fun b => ?_).trans ((cols_apply (e := .f32) ρ s₁ 0 τ t ht).trans (hρ t))
    match b with
    | ⟨0, _⟩ => rfl
    | ⟨1, _⟩ => rfl
  exact congrArg₂ (fun a b : EReal => a * b) e1 e2

end Cert.Style
-- ==== Proof.Run.lean ====
/- One grid point of the kernel: what its scratch arrays hold, store by store. -/
module

public import proofs.«01_k».proof.Proof.Steps
public import proofs.«01_k».proof.Proof.Style
public import Idealize.ShloMosaic.Lib.WholeRead

@[expose] public section

noncomputable section

namespace Cert.Run

open Idealize.ShloMosaic Cert.KernelIdeal Cert.KernelIdeal.Gen Cert.Net Cert.Blocks Cert.Columns Cert.Steps Cert.Style

/-- A grid point's buffers and the contents of its inputs, the band among them. -/
structure Point where
  c : Dev nD
  i : grid0.Coords
  arg1 : Memref sig .tc .vmem S1x512x2048 .f32
  harg1 : arg1.IsWhole
  arg2 : Memref sig .tc .vmem S1x128x2048 .bf16
  harg2 : arg2.IsWhole
  arg3 : Memref sig .tc .vmem S512x256 .bf16
  harg3 : arg3.IsWhole
  arg4 : Memref sig .tc .vmem S1024x128 .bf16
  harg4 : arg4.IsWhole
  arg5 : Memref sig .tc .vmem S3x512x512 .bf16
  harg5 : arg5.IsWhole
  arg6 : Memref sig .tc .vmem S1024x128 .bf16
  harg6 : arg6.IsWhole
  arg7 : Memref sig .tc .vmem S3x512x512 .bf16
  harg7 : arg7.IsWhole
  arg8 : Memref sig .tc .smem S16 .i32
  harg8 : arg8.IsWhole
  arg9 : Memref sig .tc .smem S1 .f32
  harg9 : arg9.IsWhole
  arg10 : Memref sig .tc .smem S1 .f32
  harg10 : arg10.IsWhole
  arg11 : Memref sig .tc .vmem S1x512x2048 .f32
  harg11 : arg11.IsWhole
  arg12 : Memref sig .tc .vmem S128x2048 .bf16
  harg12 : arg12.IsWhole
  arg13 : Memref sig .tc .vmem S512x2048 .bf16
  harg13 : arg13.IsWhole
  arg14 : Memref sig .tc .vmem S512x2048 .f32
  harg14 : arg14.IsWhole
  x0 : FVec Ideal S1x512x2048 .f32
  x1 : FVec Ideal S1x128x2048 .bf16
  x2 : FVec Ideal S512x256 .bf16
  x3 : FVec Ideal S1024x128 .bf16
  x4 : FVec Ideal S3x512x512 .bf16
  x5 : FVec Ideal S1024x128 .bf16
  x6 : FVec Ideal S3x512x512 .bf16
  x7 : Vec Ideal S16 .i32
  x8 : FVec Ideal S1 .f32
  x9 : FVec Ideal S1 .f32
  band : ∀ (m : Fin 512) (τ : Fin 256), x2 (ix2 m τ) = if τ.val + 110 ≤ m.val ∧ m.val ≤ τ.val + 146 then 1 else 0

namespace Point

variable (K : Point)

/-- The row's length word. -/
def ln : BitVec 32 := kernelRun0_A.sl.r (F := Ideal) K.c K.i K.arg8 K.harg8 K.x7

/-- The first layer's slope inside the hyperbolic tangent. -/
def α₁ : EReal := kernelRun0_A.sl.r_1 (F := Ideal) K.c K.arg9 K.harg9 K.x8
/-- The second layer's slope. -/
def α₂ : EReal := kernelRun0_A.sl.r_2 (F := Ideal) K.c K.arg10 K.harg10 K.x9

/-- The style signal of the row. -/
def sw : Sig 128 := style (fun k t => K.x1 (ix3 0 k t)) K.ln
/-- The row's input. -/
def inp : Sig 512 := fun ch t => K.x0 (ix3 0 ch t)
/-- The first convolution's weights. -/
def w₁ : Fin 3 → Fin 512 → Fin 512 → EReal := fun k r i => K.x4 (ix3 k r i)
/-- The second convolution's weights. -/
def w₂ : Fin 3 → Fin 512 → Fin 512 → EReal := fun k r i => K.x6 (ix3 k r i)
/-- The first activation. -/
def g₁ : Sig 512 := layer K.α₁ K.inp (modul K.x3 K.sw 0 (by omega)) (modul K.x3 K.sw 512 (by omega))
/-- The first convolution. -/
def d₁ : Sig 512 := conv K.w₁ K.g₁
/-- The second activation. -/
def g₂ : Sig 512 := layer K.α₂ K.d₁ (modul K.x5 K.sw 0 (by omega)) (modul K.x5 K.sw 512 (by omega))

end Point

/-! ## Loads of the inputs -/

/-- A load of a whole matrix is the matrix. -/
theorem whole2 {A B : Nat} {κ : Kind} {sp : Space} {e : EltTy} {m : Memref sig κ sp ⟨2, ![A, B]⟩ e} (h : m.IsWhole)
    (x : (⟨2, ![A, B]⟩ : Shape).Idx → Elt Ideal e) (inb) :
    View.readAt (Elt Ideal) m.view (Rect.unit (s := ⟨2, ![A, B]⟩) ![0, 0] ![A, B] inb).toLoadRect (h.unread x) = x := funext fun j => by
  refine (h.readAt_unread x _ j).trans (congrArg x (funext fun b => Fin.ext ?_))
  match b with
  | ⟨0, _⟩ => show 0 + 1 * (j 0).val = (j 0).val; omega
  | ⟨1, _⟩ => show 0 + 1 * (j 1).val = (j 1).val; omega

/-- A load of one slab of a stack of matrices, a block of its columns. -/
theorem slab3 {P A B n p o : Nat} {κ : Kind} {sp : Space} {e : EltTy} {m : Memref sig κ sp ⟨3, ![P, A, B]⟩ e} (h : m.IsWhole)
    (x : (⟨3, ![P, A, B]⟩ : Shape).Idx → Elt Ideal e) (inb) (q : Fin P) (r : Fin A) (i : Fin n) (j : Fin B) (hq : q.val = p) (hj : j.val = o + i.val) :
    View.readAt (Elt Ideal) m.view (Rect.unit (s := ⟨3, ![P, A, B]⟩) ![p, 0, o] ![1, A, n] inb).toLoadRect (h.unread x) (ix3 (0 : Fin 1) r i) = x (ix3 q r j) := by
  refine (h.readAt_unread x _ _).trans (congrArg x (funext fun b => Fin.ext ?_))
  match b with
  | ⟨0, _⟩ => show p + 1 * 0 = q.val; omega
  | ⟨1, _⟩ => show 0 + 1 * r.val = r.val; omega
  | ⟨2, _⟩ => show o + 1 * i.val = j.val; omega

variable (K : Point)

/-- A block of the input. -/
theorem inp_blk {k : Nat} {inb} : Blk (Val := Elt Ideal) (e := .f32)
    (shapeCast S512x256 (View.readAt (Elt Ideal) K.arg1.view (Rect.unit (s := S1x512x2048) ![0, 0, k] S1x512x256.size inb).toLoadRect (K.harg1.unread K.x0))
      shapeCasts_S1x512x256_S512x256) k K.inp :=
  input_blk fun ch τ t ht => slab3 K.harg1 K.x0 inb 0 ch τ t rfl ht

/-- A tap of the first convolution. -/
theorem tap₁ (p : Fin 3) {o : Nat} (ho : o = p.val) {inb} : Slab (View.readAt (Elt Ideal) K.arg5.view (Rect.unit (s := S3x512x512) ![o, 0, 0] S1x512x512.size inb).toLoadRect (K.harg5.unread K.x4))
    (K.w₁ p) := fun r i => slab3 K.harg5 K.x4 inb p r i i ho.symm (Nat.zero_add _).symm

/-- A tap of the second convolution. -/
theorem tap₂ (p : Fin 3) {o : Nat} (ho : o = p.val) {inb} : Slab (View.readAt (Elt Ideal) K.arg7.view (Rect.unit (s := S3x512x512) ![o, 0, 0] S1x512x512.size inb).toLoadRect (K.harg7.unread K.x6))
    (K.w₂ p) := fun r i => slab3 K.harg7 K.x6 inb p r i i ho.symm (Nat.zero_add _).symm

/-! ## The style scratch -/

/-- The style scratch. -/
def Point.hsw : List (View.Piece (Elt Ideal) S128x2048 .bf16) :=
  kernelRun0_A.sl.HS0_8 (F := Ideal) K.c K.i K.arg2 K.harg2 K.arg3 K.harg3 K.arg8 K.harg8 K.x1 K.x2 K.x7

/-- The style block as the body loads it. -/
theorem style_cols (c : Fin 128) (t : Fin 2048) :
    kernelRun0_A.sl.v30 (F := Ideal) K.c K.arg2 K.harg2 K.x1 (ix2 c t) = K.x1 (ix3 0 c t) :=
  ((shapeCast_dropUnit_apply _ _ shapeCasts_S1x128x2048_S128x2048 (ix2 c t)).trans (congrArg _ (by
    funext b; match b with | ⟨0, _⟩ => rfl | ⟨1, _⟩ => rfl | ⟨2, _⟩ => rfl))).trans
    (slab3 (n := 2048) (o := 0) K.harg2 K.x1 inb_S1x128x2048_S1x128x2048_0_0_0 0 c t t rfl (by omega))

/-- The band matrix as the body loads it. -/
theorem band_whole : kernelRun0_A.sl.v32 (F := Ideal) K.c K.arg3 K.harg3 K.x2 = K.x2 :=
  (shapeCast_self _ _).trans (whole2 K.harg3 K.x2 _)

/-- The row of weights is the mask over the count. -/
theorem row_weight (t : Fin 2048) : kernelRun0_A.sl.v28 (F := Ideal) K.c K.i K.arg8 K.harg8 K.x7 (ix2 0 t) = weight K.ln t :=
  row_apply K.ln t

/-- The whole style scratch holds the style signal. -/
theorem sw_upto : Upto K.hsw K.sw 8 := by
  have hA : ∀ (n o : Nat) (hn : o + n ≤ 2048) (h) (c : Fin 128) (m : Fin n),
      extractStridedSlice (⟨2, ![128, n]⟩ : Shape) ![0, o] (kernelRun0_A.sl.v30 (F := Ideal) K.c K.arg2 K.harg2 K.x1) h (ix2 c m)
        = K.x1 (ix3 0 c ⟨o + m.val, by omega⟩) := fun n o hn h c m =>
    (cols_apply (e := .bf16) _ h c m ⟨o + m.val, by omega⟩ rfl).trans (style_cols K c _)
  have hW : ∀ (m : Fin 512) (τ : Fin 256), kernelRun0_A.sl.v32 (F := Ideal) K.c K.arg3 K.harg3 K.x2 (ix2 m τ)
      = if τ.val + 110 ≤ 0 + m.val ∧ 0 + m.val ≤ τ.val + 146 then 1 else 0 := fun m τ => by
    rw [band_whole, K.band m τ, Nat.zero_add]
  have hP : ∀ (o : Nat) (ho : o + 384 ≤ 512) (h) (m : Fin 384) (τ : Fin 256),
      extractStridedSlice S384x256 ![o, 0] (kernelRun0_A.sl.v32 (F := Ideal) K.c K.arg3 K.harg3 K.x2) h (ix2 m τ)
        = if τ.val + 110 ≤ o + m.val ∧ o + m.val ≤ τ.val + 146 then 1 else 0 := fun o ho h m τ => by
    refine (rows_apply (e := .bf16) _ h m τ ⟨o + m.val, by omega⟩ rfl).trans ?_
    rw [band_whole, K.band]
  have full : ∀ (o k : Nat) (ho : o + 512 ≤ 2048) (hk : o + 128 = k) (s₁ s₂ s₃ s₄ s₅),
      Blk (Val := Elt Ideal) (e := .bf16) (shapeCast S128x256 (truncf .bf16 (mulf (matmul (φ₁ := .bf16) (φ₂ := .bf16) dot_S128x512_S512x256_S128x256_1_0_0_1_n_n none
          (extractStridedSlice S128x512 ![0, o] (kernelRun0_A.sl.v30 (F := Ideal) K.c K.arg2 K.harg2 K.x1) s₁)
          (kernelRun0_A.sl.v32 (F := Ideal) K.c K.arg3 K.harg3 K.x2) (constant S128x256 .f32 0x00000000#32))
        (broadcastTo S128x256 (extractStridedSlice S1x256 ![0, k] (kernelRun0_A.sl.v28 (F := Ideal) K.c K.i K.arg8 K.harg8 K.x7) s₂) s₃)) s₄) s₅) k K.sw :=
    fun o k ho hk s₁ s₂ s₃ s₄ s₅ =>
      style_blk (n := 512) (lo := o) (bo := 0) dot_S128x512_S512x256_S128x256_1_0_0_1_n_n rfl ho (by omega) (by omega) (by omega)
        (hA 512 o ho s₁) hW (row_weight K) s₂ s₃ s₄ s₅
  have u0 := (Upto.nil (Val := Elt Ideal) (e := .bf16) K.sw).push (inb := inb_S128x2048_S128x256_0_0) rfl
    (style_blk (n := 384) (lo := 0) (bo := 128) (k := 0) dot_S128x384_S384x256_S128x256_1_0_0_1_n_n rfl (by omega) rfl (.inl rfl) (by omega)
      (hA 384 0 (by omega) slices_S128x2048_o0_0_S128x384) (hP 128 (by omega) slices_S512x256_o128_0_S384x256) (row_weight K)
      slices_S1x2048_o0_0_S1x256 broadcasts_S1x256_S128x256 bitsLt_bf16_f32 shapeCasts_S128x256_S128x256)
  have u1 := u0.push (inb := inb_S128x2048_S128x256_0_256) rfl (full 128 256 (by omega) rfl slices_S128x2048_o0_128_S128x512 slices_S1x2048_o0_256_S1x256 broadcasts_S1x256_S128x256 bitsLt_bf16_f32 shapeCasts_S128x256_S128x256)
  have u2 := u1.push (inb := inb_S128x2048_S128x256_0_512) rfl (full 384 512 (by omega) rfl slices_S128x2048_o0_384_S128x512 slices_S1x2048_o0_512_S1x256 broadcasts_S1x256_S128x256 bitsLt_bf16_f32 shapeCasts_S128x256_S128x256)
  have u3 := u2.push (inb := inb_S128x2048_S128x256_0_768) rfl (full 640 768 (by omega) rfl slices_S128x2048_o0_640_S128x512 slices_S1x2048_o0_768_S1x256 broadcasts_S1x256_S128x256 bitsLt_bf16_f32 shapeCasts_S128x256_S128x256)
  have u4 := u3.push (inb := inb_S128x2048_S128x256_0_1024) rfl (full 896 1024 (by omega) rfl slices_S128x2048_o0_896_S128x512 slices_S1x2048_o0_1024_S1x256 broadcasts_S1x256_S128x256 bitsLt_bf16_f32 shapeCasts_S128x256_S128x256)
  have u5 := u4.push (inb := inb_S128x2048_S128x256_0_1280) rfl (full 1152 1280 (by omega) rfl slices_S128x2048_o0_1152_S128x512 slices_S1x2048_o0_1280_S1x256 broadcasts_S1x256_S128x256 bitsLt_bf16_f32 shapeCasts_S128x256_S128x256)
  have u6 := u5.push (inb := inb_S128x2048_S128x256_0_1536) rfl (full 1408 1536 (by omega) rfl slices_S128x2048_o0_1408_S128x512 slices_S1x2048_o0_1536_S1x256 broadcasts_S1x256_S128x256 bitsLt_bf16_f32 shapeCasts_S128x256_S128x256)
  have u7 := u6.push (inb := inb_S128x2048_S128x256_0_1792) rfl
    (style_blk (n := 384) (lo := 1664) (bo := 0) (k := 1792) dot_S128x384_S384x256_S128x256_1_0_0_1_n_n rfl (by omega) rfl (.inr (by omega)) (.inr rfl)
      (hA 384 1664 (by omega) slices_S128x2048_o0_1664_S128x384) (hP 0 (by omega) slices_S512x256_o0_0_S384x256) (row_weight K)
      slices_S1x2048_o0_1792_S1x256 broadcasts_S1x256_S128x256 bitsLt_bf16_f32 shapeCasts_S128x256_S128x256)
  exact u7

/-! ## The four steps of the pipeline -/

/-- A block of the first activation. -/
theorem act₁ (k : Nat) (hk : k + 256 ≤ 2048) {i₀ i₁ i₂} : Blk (Val := Elt Ideal) (e := .bf16)
    (affV (Scalar.mulf (Scalar.ofBits .f32 0x40000000#32) K.α₁)
      (View.readAt (Elt Ideal) K.arg4.view (Rect.unit (s := S1024x128) ![0, 0] S1024x128.size i₀).toLoadRect (K.harg4.unread K.x3))
      (K.arg12.view.readCov K.hsw (cols 128 k 256 i₁).toLoadRect)
      (shapeCast S512x256 (View.readAt (Elt Ideal) K.arg1.view (Rect.unit (s := S1x512x2048) ![0, 0, k] S1x512x256.size i₂).toLoadRect (K.harg1.unread K.x0))
        shapeCasts_S1x512x256_S512x256)) k K.g₁ := by
  rw [whole2 K.harg4 K.x3 i₀]
  exact aff_blk ((sw_upto K).load _ (by omega)) (inp_blk K)

/-- A block of the second activation. -/
theorem act₂ (k : Nat) (hk : k + 256 ≤ 2048) {i₀ i₁} {x : FVec Ideal S512x256 .f32} (hx : Blk (Val := Elt Ideal) (e := .f32) x k K.d₁) :
    Blk (Val := Elt Ideal) (e := .bf16)
    (affV (Scalar.mulf (Scalar.ofBits .f32 0x40000000#32) K.α₂)
      (View.readAt (Elt Ideal) K.arg6.view (Rect.unit (s := S1024x128) ![0, 0] S1024x128.size i₀).toLoadRect (K.harg6.unread K.x5))
      (K.arg12.view.readCov K.hsw (cols 128 k 256 i₁).toLoadRect) x) k K.g₂ := by
  rw [whole2 K.harg6 K.x5 i₀]
  exact aff_blk ((sw_upto K).load _ (by omega)) hx

/-- A block of the first convolution. -/
theorem conv₁ (k : Nat) {i₀ i₁ i₂} {h hl hr : FVec Ideal S512x256 .bf16} (hh : Blk (Val := Elt Ideal) (e := .bf16) h k K.g₁)
    (hhl : Blk (Val := Elt Ideal) (e := .bf16) hl k (earlier K.g₁)) (hhr : Blk (Val := Elt Ideal) (e := .bf16) hr k (later K.g₁)) :
    Blk (Val := Elt Ideal) (e := .f32) (shapeCast S512x256 (convV
      (View.readAt (Elt Ideal) K.arg5.view (Rect.unit (s := S3x512x512) ![1, 0, 0] S1x512x512.size i₁).toLoadRect (K.harg5.unread K.x4)) h
      (View.readAt (Elt Ideal) K.arg5.view (Rect.unit (s := S3x512x512) ![0, 0, 0] S1x512x512.size i₀).toLoadRect (K.harg5.unread K.x4)) hl
      (View.readAt (Elt Ideal) K.arg5.view (Rect.unit (s := S3x512x512) ![2, 0, 0] S1x512x512.size i₂).toLoadRect (K.harg5.unread K.x4)) hr)
      shapeCasts_S512x256_S512x256) k K.d₁ :=
  stored_blk (conv_blk (tap₁ K 1 rfl) (tap₁ K 0 rfl) (tap₁ K 2 rfl) hh hhl hhr)

/-- A block of columns lies inside the array. -/
theorem fits {R : Nat} (k n : Nat) (h : k + n ≤ 2048) : ∀ a, (![0, k] : Fin 2 → Nat) a + (![R, n] : Fin 2 → Nat) a ≤ (Buf2 R).size a := fun a => by
  match a with
  | ⟨0, _⟩ => exact (Nat.zero_add R).le
  | ⟨1, _⟩ => exact h

/-- An inner block of the first convolution, its taps loaded from the activations' scratch. -/
theorem mid₁ {L : List (View.Piece (Elt Ideal) S512x2048 .bf16)} {a b : Nat} (h : Two L K.g₁ K.g₂ a b) (k : Nat) (h0 : 1 ≤ k) (h1 : 256 * b ≤ k - 1)
    (h2 : k + 257 ≤ 256 * a) (h3 : k + 257 ≤ 2048) {i₀ i₁ i₂} :
    Blk (Val := Elt Ideal) (e := .f32) (shapeCast S512x256 (convV
      (View.readAt (Elt Ideal) K.arg5.view (Rect.unit (s := S3x512x512) ![1, 0, 0] S1x512x512.size i₁).toLoadRect (K.harg5.unread K.x4))
      (K.arg13.view.readCov L (cols 512 k 256 (fits k 256 (by omega))).toLoadRect)
      (View.readAt (Elt Ideal) K.arg5.view (Rect.unit (s := S3x512x512) ![0, 0, 0] S1x512x512.size i₀).toLoadRect (K.harg5.unread K.x4))
      (K.arg13.view.readCov L (cols 512 (k - 1) 256 (fits (k - 1) 256 (by omega))).toLoadRect)
      (View.readAt (Elt Ideal) K.arg5.view (Rect.unit (s := S3x512x512) ![2, 0, 0] S1x512x512.size i₂).toLoadRect (K.harg5.unread K.x4))
      (K.arg13.view.readCov L (cols 512 (k + 1) 256 (fits (k + 1) 256 (by omega))).toLoadRect)) shapeCasts_S512x256_S512x256) k K.d₁ :=
  conv₁ K k (h.load₁ _ (by omega) (by omega)) (earlier_blk (h.load₁ (k := k - 1) _ (by omega) (by omega)) (by omega))
    (later_blk (h.load₁ (k := k + 1) _ (by omega) (by omega)) rfl (by omega))

/-- A block of the second convolution. -/
theorem conv₂ (k : Nat) {i₀ i₁ i₂} {h hl hr : FVec Ideal S512x256 .bf16} (hh : Blk (Val := Elt Ideal) (e := .bf16) h k K.g₂)
    (hhl : Blk (Val := Elt Ideal) (e := .bf16) hl k (earlier K.g₂)) (hhr : Blk (Val := Elt Ideal) (e := .bf16) hr k (later K.g₂)) :
    Blk (Val := Elt Ideal) (e := .f32) (convV
      (View.readAt (Elt Ideal) K.arg7.view (Rect.unit (s := S3x512x512) ![1, 0, 0] S1x512x512.size i₁).toLoadRect (K.harg7.unread K.x6)) h
      (View.readAt (Elt Ideal) K.arg7.view (Rect.unit (s := S3x512x512) ![0, 0, 0] S1x512x512.size i₀).toLoadRect (K.harg7.unread K.x6)) hl
      (View.readAt (Elt Ideal) K.arg7.view (Rect.unit (s := S3x512x512) ![2, 0, 0] S1x512x512.size i₂).toLoadRect (K.harg7.unread K.x6)) hr)
      k (conv K.w₂ K.g₂) :=
  conv_blk (tap₂ K 1 rfl) (tap₂ K 0 rfl) (tap₂ K 2 rfl) hh hhl hhr

/-- An inner block of the second convolution, its taps loaded from the activations' scratch. -/
theorem mid₂ {L : List (View.Piece (Elt Ideal) S512x2048 .bf16)} {a b : Nat} (h : Two L K.g₁ K.g₂ a b) (k : Nat) (h0 : 1 ≤ k)
    (h2 : k + 257 ≤ 256 * b) (h3 : k + 257 ≤ 2048) {i₀ i₁ i₂} :
    Blk (Val := Elt Ideal) (e := .f32) (convV
      (View.readAt (Elt Ideal) K.arg7.view (Rect.unit (s := S3x512x512) ![1, 0, 0] S1x512x512.size i₁).toLoadRect (K.harg7.unread K.x6))
      (K.arg13.view.readCov L (cols 512 k 256 (fits k 256 (by omega))).toLoadRect)
      (View.readAt (Elt Ideal) K.arg7.view (Rect.unit (s := S3x512x512) ![0, 0, 0] S1x512x512.size i₀).toLoadRect (K.harg7.unread K.x6))
      (K.arg13.view.readCov L (cols 512 (k - 1) 256 (fits (k - 1) 256 (by omega))).toLoadRect)
      (View.readAt (Elt Ideal) K.arg7.view (Rect.unit (s := S3x512x512) ![2, 0, 0] S1x512x512.size i₂).toLoadRect (K.harg7.unread K.x6))
      (K.arg13.view.readCov L (cols 512 (k + 1) 256 (fits (k + 1) 256 (by omega))).toLoadRect)) k (conv K.w₂ K.g₂) :=
  conv₂ K k (h.load₂ _ (by omega)) (earlier_blk (h.load₂ (k := k - 1) _ (by omega)) (by omega))
    (later_blk (h.load₂ (k := k + 1) _ (by omega)) rfl (by omega))

end Cert.Run
-- ==== Proof.Chain.lean ====
/- The pipeline's stores in order: how far each scratch array holds the two activations and the first convolution. -/
module

public import proofs.«01_k».proof.Proof.Run

@[expose] public section

noncomputable section

namespace Cert.Run

open Idealize.ShloMosaic Cert.KernelIdeal Cert.KernelIdeal.Gen Cert.Net Cert.Blocks Cert.Columns Cert.Steps Cert.Style

variable (K : Point)

/-- The activations' scratch after its first two stores. -/
def Point.a2 := kernelRun0_A.sl.HS1_2 (F := Ideal) K.c K.i K.arg1 K.harg1 K.arg2 K.harg2 K.arg3 K.harg3 K.arg4 K.harg4 K.arg8 K.harg8 K.arg9 K.harg9 K.arg12 K.x0 K.x1 K.x2 K.x3 K.x7 K.x8
/-- The same after its third. -/
def Point.a3 := kernelRun0_A.sl.HS1_3 (F := Ideal) K.c K.i K.arg1 K.harg1 K.arg2 K.harg2 K.arg3 K.harg3 K.arg4 K.harg4 K.arg8 K.harg8 K.arg9 K.harg9 K.arg12 K.x0 K.x1 K.x2 K.x3 K.x7 K.x8
/-- The first convolution's scratch after its first two stores. -/
def Point.b2 := kernelRun0_A.sl.HS2_2 (F := Ideal) K.c K.i K.arg1 K.harg1 K.arg2 K.harg2 K.arg3 K.harg3 K.arg4 K.harg4 K.arg5 K.harg5 K.arg8 K.harg8 K.arg9 K.harg9 K.arg12 K.arg13 K.x0 K.x1 K.x2 K.x3 K.x4 K.x7 K.x8

/-- After 2 stores the scratch holds the first activation up to block 2. -/
theorem two_2 : Two K.a2 K.g₁ K.g₂ 2 0 := by
  have s0 := (Two.nil (Val := Elt Ideal) (e := .bf16) K.g₁ K.g₂).push₁ (inb := inb_S512x2048_S512x256_0_0) rfl (by omega)
    (act₁ K 0 (by omega) (i₀ := inb_S1024x128_S1024x128_0_0) (i₁ := inb_S128x2048_S128x256_0_0) (i₂ := inb_S1x512x2048_S1x512x256_0_0_0))
  have s1 := s0.push₁ (inb := inb_S512x2048_S512x256_0_256) rfl (by omega)
    (act₁ K 256 (by omega) (i₀ := inb_S1024x128_S1024x128_0_0) (i₁ := inb_S128x2048_S128x256_0_256) (i₂ := inb_S1x512x2048_S1x512x256_0_0_256))
  exact s1

/-- After 3 stores the scratch holds the first activation up to block 3. -/
theorem two_3 : Two K.a3 K.g₁ K.g₂ 3 0 :=
  (two_2 K).push₁ (inb := inb_S512x2048_S512x256_0_512) rfl (by omega)
    (act₁ K 512 (by omega) (i₀ := inb_S1024x128_S1024x128_0_0) (i₁ := inb_S128x2048_S128x256_0_512) (i₂ := inb_S1x512x2048_S1x512x256_0_0_512))

/-- After 2 stores the first convolution stands in the first 2 blocks. -/
theorem upto_2 : Upto K.b2 K.d₁ 2 := by
  have s0 := (Upto.nil (Val := Elt Ideal) (e := .f32) K.d₁).push (inb := inb_S512x2048_S512x256_0_0) rfl
    (conv₁ K 0 (i₀ := inb_S3x512x512_S1x512x512_0_0_0) (i₁ := inb_S3x512x512_S1x512x512_1_0_0) (i₂ := inb_S3x512x512_S1x512x512_2_0_0)
      ((two_2 K).load₁ (inb := inb_S512x2048_S512x256_0_0) K.arg13.view (by omega) (by omega))
      (earlier_edge ((two_2 K).load₁ (inb := inb_S512x2048_S512x255_0_0) K.arg13.view (by omega) (by omega)))
      (later_blk ((two_2 K).load₁ (inb := inb_S512x2048_S512x256_0_1) K.arg13.view (by omega) (by omega)) rfl (by omega)))
  have s1 := s0.push (inb := inb_S512x2048_S512x256_0_256) rfl
    (conv₁ K 256 (i₀ := inb_S3x512x512_S1x512x512_0_0_0) (i₁ := inb_S3x512x512_S1x512x512_1_0_0) (i₂ := inb_S3x512x512_S1x512x512_2_0_0)
      ((two_3 K).load₁ (inb := inb_S512x2048_S512x256_0_256) K.arg13.view (by omega) (by omega))
      (earlier_blk ((two_3 K).load₁ (inb := inb_S512x2048_S512x256_0_255) K.arg13.view (by omega) (by omega)) rfl)
      (later_blk ((two_3 K).load₁ (inb := inb_S512x2048_S512x256_0_257) K.arg13.view (by omega) (by omega)) rfl (by omega)))
  exact s1

/-- The activations' scratch after 5 stores. -/
def Point.a5 := kernelRun0_A.sl.HS1_5 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 6 stores. -/
def Point.a6 := kernelRun0_A.sl.HS1_6 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 7 stores. -/
def Point.a7 := kernelRun0_A.sl.HS1_7 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 8 stores. -/
def Point.a8 := kernelRun0_A.sl.HS1_8 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 9 stores. -/
def Point.a9 := kernelRun0_A.sl.HS1_9 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 10 stores. -/
def Point.a10 := kernelRun0_A.sl.HS1_10 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 11 stores. -/
def Point.a11 := kernelRun0_A.sl.HS1_11 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 12 stores. -/
def Point.a12 := kernelRun0_A.sl.HS1_12 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 13 stores. -/
def Point.a13 := kernelRun0_A.sl.HS1_13 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 14 stores. -/
def Point.a14 := kernelRun0_A.sl.HS1_14 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 15 stores. -/
def Point.a15 := kernelRun0_A.sl.HS1_15 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The activations' scratch after 16 stores. -/
def Point.a16 := kernelRun0_A.sl.HS1_16 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 3 stores. -/
def Point.b3 := kernelRun0_A.sl.HS2_3 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 4 stores. -/
def Point.b4 := kernelRun0_A.sl.HS2_4 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 5 stores. -/
def Point.b5 := kernelRun0_A.sl.HS2_5 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 6 stores. -/
def Point.b6 := kernelRun0_A.sl.HS2_6 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 7 stores. -/
def Point.b7 := kernelRun0_A.sl.HS2_7 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9
/-- The first convolution's scratch after 8 stores. -/
def Point.b8 := kernelRun0_A.sl.HS2_8 (F := Ideal) K.c K.i K.arg1 K.harg1 K.arg2 K.harg2 K.arg3 K.harg3 K.arg4 K.harg4 K.arg5 K.harg5 K.arg6 K.harg6 K.arg8 K.harg8 K.arg9 K.harg9 K.arg10 K.harg10 K.arg12 K.arg13 K.arg14 K.x0 K.x1 K.x2 K.x3 K.x4 K.x5 K.x7 K.x8 K.x9

/-- After 5 stores the scratch holds the second activation in its first 1 block, then the first up to block 4. -/
theorem two_5 : Two K.a5 K.g₁ K.g₂ 4 1 :=
  ((two_3 K).push₂ (inb := inb_S512x2048_S512x256_0_0) rfl
    (act₂ K 0 (by omega) (i₀ := inb_S1024x128_S1024x128_0_0) (i₁ := inb_S128x2048_S128x256_0_0) ((upto_2 K).load (inb := inb_S512x2048_S512x256_0_0) K.arg14.view (by omega)))).push₁ (inb := inb_S512x2048_S512x256_0_768) rfl (by omega)
    (act₁ K 768 (by omega) (i₀ := inb_S1024x128_S1024x128_0_0) (i₁ := inb_S128x2048_S128x256_0_768) (i₂ := inb_S1x512x2048_S1x512x256_0_0_768))

/-- After 3 stores the first convolution stands in the first 3 blocks. -/
theorem upto_3 : Upto K.b3 K.d₁ 3 :=
  (upto_2 K).push (inb := inb_S512x2048_S512x256_0_512) rfl
    (mid₁ K (two_5 K) 512 (by omega) (by omega) (by omega) (by omega) (i₀ := inb_S3x512x512_S1x512x512_0_0_0) (i₁ := inb_S3x512x512_S1x512x512_1_0_0) (i₂ := inb_S3x512x512_S1x512x512_2_0_0))

/-- After 6 stores the scratch holds the second activation in its first 2 blocks, then the first up to block 4. -/
theorem two_6 : Two K.a6 K.g₁ K.g₂ 4 2 :=
  (two_5 K).push₂ (inb := inb_S512x2048_S512x256_0_256) rfl
    (act₂ K 256 (by omega) (i₀ := inb_S1024x128_S1024x128_0_0) (i₁ := inb_S128x2048_S128x256_0_256) ((upto_3 K).load (inb := inb_S512x2048_S512x256_0_256) K.arg14.view (by omega)))

/-- After 7 stores the scratch holds the second activation in its first 2 blocks, then the first up to block 5. -/
theorem two_7 : Two K.a7 K.g₁ K.g₂ 5 2 :=
  (two_6 K).push₁ (inb := inb_S512x2048_S512x256_0_1024) rfl (by omega)
    (act₁ K 1024 (by omega) (i₀ := inb_S1024x128_S1024x128_0_0) (i₁ := inb_S128x2048_S128x256_0_1024) (i₂ := inb_S1x512x2048_S1x512x256_0_0_1024))

/-- After 4 stores the first convolution stands in the first 4 blocks. -/
theorem upto_4 : Upto K.b4 K.d₁ 4 :=
  (upto_3 K).push (inb := inb_S512x2048_S512x256_0_768) rfl
    (mid₁ K (two_7 K) 768 (by omega) (by omega) (by omega) (by omega) (i₀ := inb_S3x512x512_S1x512x512_0_0_0) (i₁ := inb_S3x512x512_S1x512x512_1_0_0) (i₂ := inb_S3x512x512_S1x512x512_2_0_0))

/-- After 8 stores the scratch holds the second activation in its first 3 blocks, then the first up to block 5. -/
theorem two_8 : Two K.a8 K.g₁ K.g₂ 5 3 :=
  (two_7 K).push₂ (inb := inb_S512x2048_S512x256_0_512) rfl
    (act₂ K 512 (by omega) (i₀ := inb_S1024x128_S1024x128_0_0) (i₁ := inb_S128x2048_S128x256_0_512) ((upto_4 K).load (inb := inb_S512x2048_S512x256_0_512) K.arg14.view (by omega)))

/-- After 9 stores the scratch holds the second activation in its first 3 blocks, then the first up to block 6. -/
theorem two_9 : Two K.a9 K.g₁ K.g₂ 6 3 :=
  (two_8 K).push₁ (inb := inb_S512x2048_S512x256_0_1280) rfl (by omega)
    (act₁ K 1280 (by omega) (i₀ := inb_S1024x128_S1024x128_0_0) (i₁ := inb_S128x2048_S128x256_0_1280) (i₂ := inb_S1x512x2048_S1x512x256_0_0_1280))

/-- After 5 stores the first convolution stands in the first 5 blocks. -/
theorem upto_5 : Upto K.b5 K.d₁ 5 :=
  (upto_4 K).push (inb := inb_S512x2048_S512x256_0_1024) rfl
    (mid₁ K (two_9 K) 1024 (by omega) (by omega) (by omega) (by omega) (i₀ := inb_S3x512x512_S1x512x512_0_0_0) (i₁ := inb_S3x512x512_S1x512x512_1_0_0) (i₂ := inb_S3x512x512_S1x512x512_2_0_0))

/-- After 10 stores the scratch holds the second activation in its first 4 blocks, then the first up to block 6. -/
theorem two_10 : Two K.a10 K.g₁ K.g₂ 6 4 :=
  (two_9 K).push₂ (inb := inb_S512x2048_S512x256_0_768) rfl
    (act₂ K 768 (by omega) (i₀ := inb_S1024x128_S1024x128_0_0) (i₁ := inb_S128x2048_S128x256_0_768) ((upto_5 K).load (inb := inb_S512x2048_S512x256_0_768) K.arg14.view (by omega)))

/-- After 11 stores the scratch holds the second activation in its first 4 blocks, then the first up to block 7. -/
theorem two_11 : Two K.a11 K.g₁ K.g₂ 7 4 :=
  (two_10 K).push₁ (inb := inb_S512x2048_S512x256_0_1536) rfl (by omega)
    (act₁ K 1536 (by omega) (i₀ := inb_S1024x128_S1024x128_0_0) (i₁ := inb_S128x2048_S128x256_0_1536) (i₂ := inb_S1x512x2048_S1x512x256_0_0_1536))

/-- After 6 stores the first convolution stands in the first 6 blocks. -/
theorem upto_6 : Upto K.b6 K.d₁ 6 :=
  (upto_5 K).push (inb := inb_S512x2048_S512x256_0_1280) rfl
    (mid₁ K (two_11 K) 1280 (by omega) (by omega) (by omega) (by omega) (i₀ := inb_S3x512x512_S1x512x512_0_0_0) (i₁ := inb_S3x512x512_S1x512x512_1_0_0) (i₂ := inb_S3x512x512_S1x512x512_2_0_0))

/-- After 12 stores the scratch holds the second activation in its first 5 blocks, then the first up to block 7. -/
theorem two_12 : Two K.a12 K.g₁ K.g₂ 7 5 :=
  (two_11 K).push₂ (inb := inb_S512x2048_S512x256_0_1024) rfl
    (act₂ K 1024 (by omega) (i₀ := inb_S1024x128_S1024x128_0_0) (i₁ := inb_S128x2048_S128x256_0_1024) ((upto_6 K).load (inb := inb_S512x2048_S512x256_0_1024) K.arg14.view (by omega)))

/-- After 13 stores the scratch holds the second activation in its first 5 blocks, then the first up to block 8. -/
theorem two_13 : Two K.a13 K.g₁ K.g₂ 8 5 :=
  (two_12 K).push₁ (inb := inb_S512x2048_S512x256_0_1792) rfl (by omega)
    (act₁ K 1792 (by omega) (i₀ := inb_S1024x128_S1024x128_0_0) (i₁ := inb_S128x2048_S128x256_0_1792) (i₂ := inb_S1x512x2048_S1x512x256_0_0_1792))

/-- After 7 stores the first convolution stands in the first 7 blocks. -/
theorem upto_7 : Upto K.b7 K.d₁ 7 :=
  (upto_6 K).push (inb := inb_S512x2048_S512x256_0_1536) rfl
    (mid₁ K (two_13 K) 1536 (by omega) (by omega) (by omega) (by omega) (i₀ := inb_S3x512x512_S1x512x512_0_0_0) (i₁ := inb_S3x512x512_S1x512x512_1_0_0) (i₂ := inb_S3x512x512_S1x512x512_2_0_0))

/-- After 14 stores the scratch holds the second activation in its first 6 blocks, then the first up to block 8. -/
theorem two_14 : Two K.a14 K.g₁ K.g₂ 8 6 :=
  (two_13 K).push₂ (inb := inb_S512x2048_S512x256_0_1280) rfl
    (act₂ K 1280 (by omega) (i₀ := inb_S1024x128_S1024x128_0_0) (i₁ := inb_S128x2048_S128x256_0_1280) ((upto_7 K).load (inb := inb_S512x2048_S512x256_0_1280) K.arg14.view (by omega)))

/-- After 8 stores the first convolution stands in the first 8 blocks. -/
theorem upto_8 : Upto K.b8 K.d₁ 8 :=
  (upto_7 K).push (inb := inb_S512x2048_S512x256_0_1792) rfl
    (conv₁ K 1792 (i₀ := inb_S3x512x512_S1x512x512_0_0_0) (i₁ := inb_S3x512x512_S1x512x512_1_0_0) (i₂ := inb_S3x512x512_S1x512x512_2_0_0)
      ((two_14 K).load₁ (inb := inb_S512x2048_S512x256_0_1792) K.arg13.view (by omega) (by omega))
      (earlier_blk ((two_14 K).load₁ (inb := inb_S512x2048_S512x256_0_1791) K.arg13.view (by omega) (by omega)) rfl)
      (later_edge ((two_14 K).load₁ (inb := inb_S512x2048_S512x255_0_1793) K.arg13.view (by omega) (by omega))))

/-- After 15 stores the scratch holds the second activation in its first 7 blocks, then the first up to block 8. -/
theorem two_15 : Two K.a15 K.g₁ K.g₂ 8 7 :=
  (two_14 K).push₂ (inb := inb_S512x2048_S512x256_0_1536) rfl
    (act₂ K 1536 (by omega) (i₀ := inb_S1024x128_S1024x128_0_0) (i₁ := inb_S128x2048_S128x256_0_1536) ((upto_8 K).load (inb := inb_S512x2048_S512x256_0_1536) K.arg14.view (by omega)))

/-- After 16 stores the scratch holds the second activation. -/
theorem two_16 : Two K.a16 K.g₁ K.g₂ 8 8 :=
  (two_15 K).push₂ (inb := inb_S512x2048_S512x256_0_1792) rfl
    (act₂ K 1792 (by omega) (i₀ := inb_S1024x128_S1024x128_0_0) (i₁ := inb_S128x2048_S128x256_0_1792) ((upto_8 K).load (inb := inb_S512x2048_S512x256_0_1792) K.arg14.view (by omega)))

end Cert.Run
-- ==== Proof.Output.lean ====
/- One grid point's output block: the second convolution and the residual, scaled, column block by column block. -/
module

public import proofs.«01_k».proof.Proof.Chain

@[expose] public section

noncomputable section

namespace Cert.Run

open Idealize.ShloMosaic Cert.KernelIdeal Cert.KernelIdeal.Gen Cert.Net Cert.Blocks Cert.Columns Cert.Steps Cert.Style

/-- The output block's columns from `k` on. -/
abbrev cols3 (k : Nat) (inb : ∀ a, (![0, 0, k] : Fin 3 → Nat) a + (![1, 512, 256] : Fin 3 → Nat) a ≤ S1x512x2048.size a) : Rect S1x512x2048 :=
  Rect.unit (s := S1x512x2048) ![0, 0, k] ![1, 512, 256] inb

/-- The first `a` blocks of 256 columns of the output block hold `G`. -/
def Done (L : List (View.Piece (Elt Ideal) S1x512x2048 .f32)) (G : Sig 512) (a : Nat) : Prop :=
  ∀ (ch : Fin 512) (t : Fin 2048), t.val < 256 * a → View.canon L (ix3 (0 : Fin 1) ch t) = G ch t

/-- Nothing is asked before the first write. -/
theorem Done.nil (G : Sig 512) : Done [] G 0 := fun _ t h => absurd h (by omega)

/-- Writing the next block of columns. -/
theorem Done.push {L : List (View.Piece (Elt Ideal) S1x512x2048 .f32)} {G : Sig 512} {a k : Nat} {inb} {w : (cols3 k inb).shape.Idx → Elt Ideal .f32}
    (h : Done L G a) (hk : k = 256 * a)
    (hw : ∀ (ch : Fin 512) (τ : Fin 256) (t : Fin 2048), t.val = k + τ.val → w (ix3 (0 : Fin 1) ch τ) = G ch t) :
    Done (⟨cols3 k inb, w⟩ :: L) G (a + 1) := fun ch t ht => by
  by_cases hlt : t.val < k
  · refine (View.canon_cons_of_not_mem _ L fun hm => ?_).trans (h ch t (by omega))
    have h1 := (Rect.mem_set_unit (inb := inb)).mp hm 2
    have e1 : k ≤ t.val ∧ t.val < k + 256 := h1
    omega
  · have hτ : t.val = k + (t.val - k) := by omega
    have hy : (cols3 k inb).emb (ix3 (0 : Fin 1) ch (⟨t.val - k, by omega⟩ : Fin 256)) = ix3 (0 : Fin 1) ch t := by
      funext b; apply Fin.ext
      match b with
      | ⟨0, _⟩ => rfl
      | ⟨1, _⟩ => show 0 + 1 * ch.val = ch.val; omega
      | ⟨2, _⟩ => show k + 1 * (t.val - k) = t.val; omega
    rw [← hy]
    exact (View.canon_cons_emb _ w L _).trans (hw ch _ t hτ)

/-- The kernel's constant for the reciprocal of the root of two. -/
def root : EReal := Named.named (F := Ideal) κ "inv_sqrt2" (φ := .f32) 0x3F3504F3#32

variable (K : Point)

/-- The grid point's output signal. -/
def Point.out : Sig 512 := fun ch t => (conv K.w₂ K.g₂ ch t + K.inp ch t) * root

/-- An output block of columns: the second convolution's block and the input's, added and scaled. -/
theorem out_blk (k : Nat) {inb} {v : FVec Ideal S512x256 .f32} (h : Blk (Val := Elt Ideal) (e := .f32) v k (conv K.w₂ K.g₂))
    (ch : Fin 512) (τ : Fin 256) (t : Fin 2048) (ht : t.val = k + τ.val) :
    k0_pay1 v (View.readAt (Elt Ideal) K.arg1.view (Rect.unit (s := S1x512x2048) ![0, 0, k] S1x512x256.size inb).toLoadRect (K.harg1.unread K.x0))
      (ix3 (0 : Fin 1) ch τ) = K.out ch t := by
  unfold k0_pay1
  refine (shapeCast_addUnit_apply _ _ shapeCasts_S512x256_S1x512x256 (ix3 (0 : Fin 1) ch τ)).trans ?_
  refine (congrArg _ (?_ : _ = ix2 ch τ)).trans ?_
  · funext b; match b with | ⟨0, _⟩ => rfl | ⟨1, _⟩ => rfl
  · exact congrArg (fun z : EReal => z * root) (congrArg₂ (fun a b : EReal => a + b) (h ch τ t ht) (inp_blk K ch τ t ht))

/-- The output block's stores. -/
def Point.pieces := (kernelRun0_A (F := Ideal) K.c K.i K.arg1 K.harg1 K.arg2 K.harg2 K.arg3 K.harg3 K.arg4 K.harg4 K.arg5 K.harg5 K.arg6 K.harg6 K.arg7 K.harg7 K.arg8 K.harg8 K.arg9 K.harg9 K.arg10 K.harg10 K.arg11 K.harg11 K.arg12 K.harg12 K.arg13 K.harg13 K.arg14 K.harg14
    K.x0 K.x1 K.x2 K.x3 K.x4 K.x5 K.x6 K.x7 K.x8 K.x9).1

/-- The output block holds the output signal. -/
theorem done_all : Done K.pieces K.out 8 := by
  have s0 := (Done.nil K.out).push (inb := inb_S1x512x2048_S1x512x256_0_0_0) rfl (out_blk K 0 (inb := inb_S1x512x2048_S1x512x256_0_0_0)
    (conv₂ K 0 (i₀ := inb_S3x512x512_S1x512x512_0_0_0) (i₁ := inb_S3x512x512_S1x512x512_1_0_0) (i₂ := inb_S3x512x512_S1x512x512_2_0_0)
      ((two_6 K).load₂ (inb := inb_S512x2048_S512x256_0_0) K.arg13.view (by omega))
      (earlier_edge ((two_6 K).load₂ (inb := inb_S512x2048_S512x255_0_0) K.arg13.view (by omega)))
      (later_blk ((two_6 K).load₂ (inb := inb_S512x2048_S512x256_0_1) K.arg13.view (by omega)) rfl (by omega))))
  have s1 := s0.push (inb := inb_S1x512x2048_S1x512x256_0_0_256) rfl (out_blk K 256 (inb := inb_S1x512x2048_S1x512x256_0_0_256)
    (mid₂ K (two_8 K) 256 (by omega) (by omega) (by omega) (i₀ := inb_S3x512x512_S1x512x512_0_0_0) (i₁ := inb_S3x512x512_S1x512x512_1_0_0) (i₂ := inb_S3x512x512_S1x512x512_2_0_0)))
  have s2 := s1.push (inb := inb_S1x512x2048_S1x512x256_0_0_512) rfl (out_blk K 512 (inb := inb_S1x512x2048_S1x512x256_0_0_512)
    (mid₂ K (two_10 K) 512 (by omega) (by omega) (by omega) (i₀ := inb_S3x512x512_S1x512x512_0_0_0) (i₁ := inb_S3x512x512_S1x512x512_1_0_0) (i₂ := inb_S3x512x512_S1x512x512_2_0_0)))
  have s3 := s2.push (inb := inb_S1x512x2048_S1x512x256_0_0_768) rfl (out_blk K 768 (inb := inb_S1x512x2048_S1x512x256_0_0_768)
    (mid₂ K (two_12 K) 768 (by omega) (by omega) (by omega) (i₀ := inb_S3x512x512_S1x512x512_0_0_0) (i₁ := inb_S3x512x512_S1x512x512_1_0_0) (i₂ := inb_S3x512x512_S1x512x512_2_0_0)))
  have s4 := s3.push (inb := inb_S1x512x2048_S1x512x256_0_0_1024) rfl (out_blk K 1024 (inb := inb_S1x512x2048_S1x512x256_0_0_1024)
    (mid₂ K (two_14 K) 1024 (by omega) (by omega) (by omega) (i₀ := inb_S3x512x512_S1x512x512_0_0_0) (i₁ := inb_S3x512x512_S1x512x512_1_0_0) (i₂ := inb_S3x512x512_S1x512x512_2_0_0)))
  have s5 := s4.push (inb := inb_S1x512x2048_S1x512x256_0_0_1280) rfl (out_blk K 1280 (inb := inb_S1x512x2048_S1x512x256_0_0_1280)
    (mid₂ K (two_15 K) 1280 (by omega) (by omega) (by omega) (i₀ := inb_S3x512x512_S1x512x512_0_0_0) (i₁ := inb_S3x512x512_S1x512x512_1_0_0) (i₂ := inb_S3x512x512_S1x512x512_2_0_0)))
  have s6 := s5.push (inb := inb_S1x512x2048_S1x512x256_0_0_1536) rfl (out_blk K 1536 (inb := inb_S1x512x2048_S1x512x256_0_0_1536)
    (mid₂ K (two_16 K) 1536 (by omega) (by omega) (by omega) (i₀ := inb_S3x512x512_S1x512x512_0_0_0) (i₁ := inb_S3x512x512_S1x512x512_1_0_0) (i₂ := inb_S3x512x512_S1x512x512_2_0_0)))
  have s7 := s6.push (inb := inb_S1x512x2048_S1x512x256_0_0_1792) rfl (out_blk K 1792 (inb := inb_S1x512x2048_S1x512x256_0_0_1792)
    (conv₂ K 1792 (i₀ := inb_S3x512x512_S1x512x512_0_0_0) (i₁ := inb_S3x512x512_S1x512x512_1_0_0) (i₂ := inb_S3x512x512_S1x512x512_2_0_0)
      ((two_16 K).load₂ (inb := inb_S512x2048_S512x256_0_1792) K.arg13.view (by omega))
      (earlier_blk ((two_16 K).load₂ (inb := inb_S512x2048_S512x256_0_1791) K.arg13.view (by omega)) rfl)
      (later_edge ((two_16 K).load₂ (inb := inb_S512x2048_S512x255_0_1793) K.arg13.view (by omega)))))
  exact s7

end Cert.Run
-- ==== Proof.BandRow.lean ====
/- The band matrix the kernel multiplies the style signal with, as the program holds it: a table of 512 × 256 words. Row `m`,
   column `t` is the word of one where `m` is at distance at most 18 from `t + 128`, and the word of zero elsewhere. This
   module says what it is to check the table entry by entry. -/
module

public import proofs.«01_k».proof.Proof.Gen.KernelIdeal

@[expose] public section

set_option maxRecDepth 100000

noncomputable section

namespace Cert.Band

open Idealize.ShloMosaic Cert.KernelIdeal

/-- Entry `(m, t)` is as stated. -/
def okAt (m t : Nat) : Bool :=
  Nat.beq (lit0t (Nat.add (Nat.mul m 256) t)).toNat (bif Nat.ble (Nat.add t 110) m && Nat.ble m (Nat.add t 146) then 0x3F800000 else 0)

/-- The first `n` entries of row `m` are as stated. -/
def okRow (m n : Nat) : Bool := Nat.rec true (fun t ih => okAt m t && ih) n

/-- The `n` rows from `lo` on are as stated. -/
def okRows (lo n : Nat) : Bool := Nat.rec true (fun j ih => okRow (Nat.add lo j) 256 && ih) n

/-- A row that checks has each of its entries as stated. -/
theorem okRow_at {m : Nat} : ∀ {n : Nat}, okRow m n = true → ∀ t < n, okAt m t = true
  | 0, _, t, ht => absurd ht (Nat.not_lt_zero t)
  | n + 1, h, t, ht => by
    have h' : (okAt m n && okRow m n) = true := h
    rw [Bool.and_eq_true] at h'
    rcases Nat.lt_succ_iff_lt_or_eq.mp ht with hlt | rfl
    · exact okRow_at h'.2 t hlt
    · exact h'.1

/-- Rows that check are each as stated. -/
theorem okRows_at {lo : Nat} : ∀ {n : Nat}, okRows lo n = true → ∀ j < n, okRow (lo + j) 256 = true
  | 0, _, j, hj => absurd hj (Nat.not_lt_zero j)
  | n + 1, h, j, hj => by
    have h' : (okRow (lo + n) 256 && okRows lo n) = true := h
    rw [Bool.and_eq_true] at h'
    rcases Nat.lt_succ_iff_lt_or_eq.mp hj with hlt | rfl
    · exact okRows_at h'.2 j hlt
    · exact h'.1

/-- Every row from `lo` on and below `hi` is as stated. -/
def Span (lo hi : Nat) : Prop := ∀ m, lo ≤ m → m < hi → okRow m 256 = true

/-- Sixteen rows that check. -/
theorem span (lo : Nat) (h : okRows lo 16 = true) : Span lo (lo + 16) := fun m h0 h1 => by
  have := okRows_at h (m - lo) (by omega)
  rwa [Nat.add_sub_cancel' h0] at this

/-- Two spans that meet are one. -/
theorem Span.join {a b c : Nat} (h₁ : Span a b) (h₂ : Span b c) : Span a c := fun m h0 h1 =>
  if h : m < b then h₁ m h0 h else h₂ m (Nat.le_of_not_lt h) h1

end Cert.Band
-- ==== Proof.BandQuarter0.lean ====
/- Rows 0 to 127 of the band matrix, checked by evaluation, sixteen at a time. -/
module

public import proofs.«01_k».proof.Proof.BandRow

@[expose] public section

set_option maxRecDepth 100000
set_option Elab.async false
set_option maxHeartbeats 0

noncomputable section

namespace Cert.Band

/-- The first quarter's rows are as stated. -/
theorem quarter0 : Span 0 128 :=
  (span 0 (by decide +kernel))
    |>.join (span 16 (by decide +kernel))
    |>.join (span 32 (by decide +kernel))
    |>.join (span 48 (by decide +kernel))
    |>.join (span 64 (by decide +kernel))
    |>.join (span 80 (by decide +kernel))
    |>.join (span 96 (by decide +kernel))
    |>.join (span 112 (by decide +kernel))

end Cert.Band
-- ==== Proof.BandQuarter1.lean ====
/- Rows 128 to 255 of the band matrix, checked by evaluation, sixteen at a time. -/
module

public import proofs.«01_k».proof.Proof.BandRow

@[expose] public section

set_option maxRecDepth 100000
set_option Elab.async false
set_option maxHeartbeats 0

noncomputable section

namespace Cert.Band

/-- The second quarter's rows are as stated. -/
theorem quarter1 : Span 128 256 :=
  (span 128 (by decide +kernel))
    |>.join (span 144 (by decide +kernel))
    |>.join (span 160 (by decide +kernel))
    |>.join (span 176 (by decide +kernel))
    |>.join (span 192 (by decide +kernel))
    |>.join (span 208 (by decide +kernel))
    |>.join (span 224 (by decide +kernel))
    |>.join (span 240 (by decide +kernel))

end Cert.Band
-- ==== Proof.BandQuarter2.lean ====
/- Rows 256 to 383 of the band matrix, checked by evaluation, sixteen at a time. -/
module

public import proofs.«01_k».proof.Proof.BandRow

@[expose] public section

set_option maxRecDepth 100000
set_option Elab.async false
set_option maxHeartbeats 0

noncomputable section

namespace Cert.Band

/-- The third quarter's rows are as stated. -/
theorem quarter2 : Span 256 384 :=
  (span 256 (by decide +kernel))
    |>.join (span 272 (by decide +kernel))
    |>.join (span 288 (by decide +kernel))
    |>.join (span 304 (by decide +kernel))
    |>.join (span 320 (by decide +kernel))
    |>.join (span 336 (by decide +kernel))
    |>.join (span 352 (by decide +kernel))
    |>.join (span 368 (by decide +kernel))

end Cert.Band
-- ==== Proof.BandQuarter3.lean ====
/- Rows 384 to 511 of the band matrix, checked by evaluation, sixteen at a time. -/
module

public import proofs.«01_k».proof.Proof.BandRow

@[expose] public section

set_option maxRecDepth 100000
set_option Elab.async false
set_option maxHeartbeats 0

noncomputable section

namespace Cert.Band

/-- The fourth quarter's rows are as stated. -/
theorem quarter3 : Span 384 512 :=
  (span 384 (by decide +kernel))
    |>.join (span 400 (by decide +kernel))
    |>.join (span 416 (by decide +kernel))
    |>.join (span 432 (by decide +kernel))
    |>.join (span 448 (by decide +kernel))
    |>.join (span 464 (by decide +kernel))
    |>.join (span 480 (by decide +kernel))
    |>.join (span 496 (by decide +kernel))

end Cert.Band
-- ==== Proof.Band.lean ====
/- The band matrix the kernel multiplies the style signal with, as the program holds it: row `m`, column `t` is the word of
   one where `m` is at distance at most 18 from `t + 128`, and the word of zero elsewhere. -/
module

public import proofs.«01_k».proof.Proof.BandQuarter0
public import proofs.«01_k».proof.Proof.BandQuarter1
public import proofs.«01_k».proof.Proof.BandQuarter2
public import proofs.«01_k».proof.Proof.BandQuarter3

@[expose] public section

noncomputable section

namespace Cert.Band

open Idealize.ShloMosaic Cert.KernelIdeal

/-- Every row is as stated. -/
theorem row_ok (m : Nat) (hm : m < 512) : okRow m 256 = true :=
  (((quarter0.join quarter1).join quarter2).join quarter3) m (Nat.zero_le m) hm

/-- The table's entry `(m, t)`. -/
theorem entry (m t : Nat) (hm : m < 512) (ht : t < 256) :
    lit0t (m * 256 + t) = if t + 110 ≤ m ∧ m ≤ t + 146 then 0x3F800000#32 else 0#32 := by
  have h := Nat.eq_of_beq_eq_true (okRow_at (row_ok m hm) t ht)
  apply BitVec.eq_of_toNat_eq
  refine Eq.trans h ?_
  by_cases h1 : t + 110 ≤ m ∧ m ≤ t + 146
  · rw [if_pos h1]
    have e1 : Nat.ble (Nat.add t 110) m = true := Nat.ble_eq_true_of_le h1.1
    have e2 : Nat.ble m (Nat.add t 146) = true := Nat.ble_eq_true_of_le h1.2
    rw [e1, e2]; rfl
  · rw [if_neg h1]
    have : (Nat.ble (Nat.add t 110) m && Nat.ble m (Nat.add t 146)) = false := by
      rw [Bool.eq_false_iff]
      intro hb
      rw [Bool.and_eq_true] at hb
      exact h1 ⟨Nat.le_of_ble_eq_true hb.1, Nat.le_of_ble_eq_true hb.2⟩
    rw [this]; rfl

end Cert.Band
-- ==== Proof.Rows.lean ====
/- The kernel's output array: row `b` is the network of row `b` of the arguments. -/
module

public import proofs.«01_k».proof.Proof.Output
public import proofs.«01_k».proof.Proof.Band
public import proofs.«01_k».proof.Proof.Gen.KernelIdeal.Value
public import Idealize.ShloMosaic.Lib.Pipeline.ValueKit

@[expose] public section

noncomputable section

namespace Cert.Rows

open Idealize.ShloMosaic Idealize.ShloMosaic.TcCoe Cert.KernelIdeal Cert.KernelIdeal.Gen Cert.Net Cert.Run Cert.Steps Cert.Style Idealize.SL.Sem

variable (m : (ℓ : Loc nD τ sig) → Buf (Elt Ideal) ℓ) (c : Dev nD)

/-- A row of the output from a row of the arguments. -/
def row (X : Sig 512) (S : Sig 128) (ln : BitVec 32) (A₁ A₂ : FVec Ideal S1024x128 .bf16) (a₁ a₂ : EReal) (W₁ W₂ : Fin 3 → Fin 512 → Fin 512 → EReal) (r : EReal) : Sig 512 :=
  net X a₁ a₂ (modul A₁ (style S ln) 0 (by omega)) (modul A₁ (style S ln) 512 (by omega))
    (modul A₂ (style S ln) 0 (by omega)) (modul A₂ (style S ln) 512 (by omega)) W₁ W₂ r

/-! ## The arrays as the region finds them -/

/-- The region finds the style signal as launched (its cast is the identity). -/
theorem V_v5 : V m c main_v5 = (fun i => m (c, Proc.devRef .tc main_arg1) i : FVec Ideal S16x128x2048 .bf16) := by
  unfold_abbrev_sides
  after_results
  rfl

/-- The region finds the band matrix's words, read as numbers. -/
theorem V_v0 : V m c main_v0 = (fun i => Ideal.ofBits .f32 (lit0 (S512x256.rowMajor i)) : FVec Ideal S512x256 .bf16) := by
  unfold_abbrev_sides
  after_results
  rfl

/-- The region finds the first convolution's weights with the tap in front. -/
theorem V_v2 : V m c main_v2 = (transpose S3x512x512 [2, 0, 1] (m (c, Proc.devRef .tc main_arg6)) transposes_S512x512x3_S3x512x512_2_0_1 : FVec Ideal S3x512x512 .f32) := by
  unfold_abbrev_sides
  after_results
  rfl

/-- The region finds the second convolution's weights with the tap in front. -/
theorem V_v4 : V m c main_v4 = (transpose S3x512x512 [2, 0, 1] (m (c, Proc.devRef .tc main_arg11)) transposes_S512x512x3_S3x512x512_2_0_1 : FVec Ideal S3x512x512 .f32) := by
  unfold_abbrev_sides
  after_results
  rfl

/-- The region finds the first projection as launched. -/
theorem V_v6 : V m c main_v6 = (fun i => m (c, Proc.devRef .tc main_arg3) i : FVec Ideal S1024x128 .bf16) := by
  unfold_abbrev_sides
  after_results
  rfl

/-- The region finds the second projection as launched. -/
theorem V_v7 : V m c main_v7 = (fun i => m (c, Proc.devRef .tc main_arg8) i : FVec Ideal S1024x128 .bf16) := by
  unfold_abbrev_sides
  after_results
  rfl

/-! ## The windows' blocks at a grid point -/

/-- The input's block at a grid point is its row. -/
theorem idx0 : ∀ t : Fin cfg0.N, win0_0.index t = ![t.val, 0, 0] := by decide +kernel
/-- The style's block at a grid point is its row. -/
theorem idx1 : ∀ t : Fin cfg0.N, win0_1.index t = ![t.val, 0, 0] := by decide +kernel
/-- The output's block at a grid point is its row. -/
theorem idx10 : ∀ t : Fin cfg0.N, win0_10.index t = ![t.val, 0, 0] := by decide +kernel
/-- The grid has one axis, the row. -/
theorem coord : ∀ t : Fin cfg0.N, (grid0.coords t 0).val = t.val := by decide +kernel

/-- The input block is the row's. -/
theorem blk0 (t : Fin cfg0.N) (ch : Fin 512) (τ : Fin 2048) : iblk m c 0 t (ix3 (0 : Fin 1) ch τ) = m (c, Proc.devRef .tc main_arg0) (ix3 (⟨t.val, t.isLt⟩ : Fin 16) ch τ) := by
  refine (congrArg (V m c main_arg0) (?_ : _ = ix3 (⟨t.val, t.isLt⟩ : Fin 16) ch τ)).trans (congrFun (V_main_arg0 m c) _)
  have e := idx0 t
  funext a; apply Fin.ext
  match a with
  | ⟨0, _⟩ =>
    show win0_0.index t 0 * 1 + 1 * 0 = t.val
    rw [e]; show t.val * 1 + 1 * 0 = t.val; omega
  | ⟨1, _⟩ =>
    show win0_0.index t 1 * 512 + 1 * ch.val = ch.val
    rw [e]; show 0 * 512 + 1 * ch.val = ch.val; omega
  | ⟨2, _⟩ =>
    show win0_0.index t 2 * 2048 + 1 * τ.val = τ.val
    rw [e]; show 0 * 2048 + 1 * τ.val = τ.val; omega

/-- The style block is the row's. -/
theorem blk1 (t : Fin cfg0.N) (ch : Fin 128) (τ : Fin 2048) : iblk m c 1 t (ix3 (0 : Fin 1) ch τ) = m (c, Proc.devRef .tc main_arg1) (ix3 (⟨t.val, t.isLt⟩ : Fin 16) ch τ) := by
  refine (congrArg (V m c main_v5) (?_ : _ = ix3 (⟨t.val, t.isLt⟩ : Fin 16) ch τ)).trans (congrFun (V_v5 m c) _)
  have e := idx1 t
  funext a; apply Fin.ext
  match a with
  | ⟨0, _⟩ =>
    show win0_1.index t 0 * 1 + 1 * 0 = t.val
    rw [e]; show t.val * 1 + 1 * 0 = t.val; omega
  | ⟨1, _⟩ =>
    show win0_1.index t 1 * 128 + 1 * ch.val = ch.val
    rw [e]; show 0 * 128 + 1 * ch.val = ch.val; omega
  | ⟨2, _⟩ =>
    show win0_1.index t 2 * 2048 + 1 * τ.val = τ.val
    rw [e]; show 0 * 2048 + 1 * τ.val = τ.val; omega

/-- The band's block is the table: one within 18 columns of the diagonal shifted by 128, else zero. -/
theorem blk2 (t : Fin cfg0.N) (r : Fin 512) (τ : Fin 256) :
    iblk m c 2 t (ix2 r τ) = if τ.val + 110 ≤ r.val ∧ r.val ≤ τ.val + 146 then (1 : EReal) else 0 := by
  refine (congrArg (V m c main_v0) (?_ : _ = ix2 r τ)).trans ?_
  · funext a; apply Fin.ext
    match a with
    | ⟨0, _⟩ => show 0 * 512 + 1 * r.val = r.val; omega
    | ⟨1, _⟩ => show 0 * 256 + 1 * τ.val = τ.val; omega
  · rw [V_v0]
    show Ideal.ofBits .f32 (lit0 (S512x256.rowMajor (ix2 r τ))) = _
    have e : lit0 (S512x256.rowMajor (ix2 r τ)) = lit0t (r.val * 256 + τ.val) := by
      have h := Shape.rowMajor_val_two (ix2 r τ)
      show lit0t (S512x256.rowMajor (ix2 r τ)).val = _
      exact congrArg lit0t h
    rw [e, Band.entry r.val τ.val r.isLt τ.isLt]
    split
    · exact Scalars.lit_one
    · exact Ideal.ofBits_zero_f32

/-- The first projection is staged whole. -/
theorem blk3 (t : Fin cfg0.N) (r : Fin 1024) (k : Fin 128) : iblk m c 3 t (ix2 r k) = m (c, Proc.devRef .tc main_arg3) (ix2 r k) := by
  refine (congrArg (V m c main_v6) (?_ : _ = ix2 r k)).trans (congrFun (V_v6 m c) _)
  funext a; apply Fin.ext
  match a with
  | ⟨0, _⟩ => show 0 * 1024 + 1 * r.val = r.val; omega
  | ⟨1, _⟩ => show 0 * 128 + 1 * k.val = k.val; omega

/-- The second projection is staged whole. -/
theorem blk5 (t : Fin cfg0.N) (r : Fin 1024) (k : Fin 128) : iblk m c 5 t (ix2 r k) = m (c, Proc.devRef .tc main_arg8) (ix2 r k) := by
  refine (congrArg (V m c main_v7) (?_ : _ = ix2 r k)).trans (congrFun (V_v7 m c) _)
  funext a; apply Fin.ext
  match a with
  | ⟨0, _⟩ => show 0 * 1024 + 1 * r.val = r.val; omega
  | ⟨1, _⟩ => show 0 * 128 + 1 * k.val = k.val; omega

/-- A convolution weight with the tap's axis moved to the front. -/
theorem turned (w : FVec Ideal S512x512x3 .f32) (k : Fin 3) (o i : Fin 512) :
    transpose S3x512x512 [2, 0, 1] w transposes_S512x512x3_S3x512x512_2_0_1 (ix3 k o i) = w (ix3 o i k) :=
  transpose_apply _ _ _ (ix3 k o i) (ix3 o i k) fun b => by
    match b with
    | ⟨0, _⟩ => rfl
    | ⟨1, _⟩ => rfl
    | ⟨2, _⟩ => rfl

/-- The first convolution's weights are staged whole, the tap in front. -/
theorem blk4 (t : Fin cfg0.N) (k : Fin 3) (o i : Fin 512) : iblk m c 4 t (ix3 k o i) = m (c, Proc.devRef .tc main_arg6) (ix3 o i k) := by
  refine (congrArg (V m c main_v2) (?_ : _ = ix3 k o i)).trans ((congrFun (V_v2 m c) _).trans (turned _ k o i))
  funext a; apply Fin.ext
  match a with
  | ⟨0, _⟩ => show 0 * 3 + 1 * k.val = k.val; omega
  | ⟨1, _⟩ => show 0 * 512 + 1 * o.val = o.val; omega
  | ⟨2, _⟩ => show 0 * 512 + 1 * i.val = i.val; omega

/-- The second convolution's weights are staged whole, the tap in front. -/
theorem blk6 (t : Fin cfg0.N) (k : Fin 3) (o i : Fin 512) : iblk m c 6 t (ix3 k o i) = m (c, Proc.devRef .tc main_arg11) (ix3 o i k) := by
  refine (congrArg (V m c main_v4) (?_ : _ = ix3 k o i)).trans ((congrFun (V_v4 m c) _).trans (turned _ k o i))
  funext a; apply Fin.ext
  match a with
  | ⟨0, _⟩ => show 0 * 3 + 1 * k.val = k.val; omega
  | ⟨1, _⟩ => show 0 * 512 + 1 * o.val = o.val; omega
  | ⟨2, _⟩ => show 0 * 512 + 1 * i.val = i.val; omega

/-- The lengths are staged whole. -/
theorem blk7 (t : Fin cfg0.N) (b : Fin 16) : iblk m c 7 t (ix1 b) = m (c, Proc.devRef .tc main_arg2) (ix1 b) := by
  refine (congrArg (V m c main_arg2) (?_ : _ = ix1 b)).trans (congrFun (V_main_arg2 m c) _)
  funext a; apply Fin.ext
  match a with
  | ⟨0, _⟩ => show 0 * 16 + 1 * b.val = b.val; omega

/-- The first slope is staged. -/
theorem blk8 (t : Fin cfg0.N) : iblk m c 8 t (ix1 (0 : Fin 1)) = m (c, Proc.devRef .tc main_arg5) (ix1 (0 : Fin 1)) := by
  refine (congrArg (V m c main_arg5) (?_ : _ = ix1 (0 : Fin 1))).trans (congrFun (V_main_arg5 m c) _)
  funext a; apply Fin.ext
  match a with
  | ⟨0, _⟩ => rfl

/-- The second slope is staged. -/
theorem blk9 (t : Fin cfg0.N) : iblk m c 9 t (ix1 (0 : Fin 1)) = m (c, Proc.devRef .tc main_arg10) (ix1 (0 : Fin 1)) := by
  refine (congrArg (V m c main_arg10) (?_ : _ = ix1 (0 : Fin 1))).trans (congrFun (V_main_arg10 m c) _)
  funext a; apply Fin.ext
  match a with
  | ⟨0, _⟩ => rfl

/-! ## The grid point -/

/-- Grid point `t`: its buffers and its inputs' blocks. -/
def point (t : Fin cfg0.N) : Point where
  c := c
  i := grid0.coords t
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg8 := ms0_7 t
  harg8 := hs0_7 t
  arg9 := ms0_8 t
  harg9 := hs0_8 t
  arg10 := ms0_9 t
  harg10 := hs0_9 t
  arg11 := ms0_10 t
  harg11 := hs0_10 t
  arg12 := scM0_0
  harg12 := Memref.isWhole_whole _
  arg13 := scM0_1
  harg13 := Memref.isWhole_whole _
  arg14 := scM0_2
  harg14 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  band := blk2 m c t

/-- A grid point's length is its row's. -/
theorem point_ln (t : Fin cfg0.N) : (point m c t).ln = m (c, Proc.devRef .tc main_arg2) (ix1 (⟨t.val, t.isLt⟩ : Fin 16)) := by
  refine ((hs0_7 t).readAt_unread (iblk m c 7 t) _ _).trans ((congrArg (iblk m c 7 t) ?_).trans (blk7 m c t _))
  funext a; apply Fin.ext
  match a with
  | ⟨0, _⟩ =>
    show k0_off1 (grid0.coords t) 0 + 1 * 0 = t.val
    rw [k0_off1_eq]
    exact coord t

/-- The first slope at a grid point. -/
theorem point_a₁ (t : Fin cfg0.N) : (point m c t).α₁ = m (c, Proc.devRef .tc main_arg5) (ix1 (0 : Fin 1)) := by
  refine ((hs0_8 t).readAt_unread (iblk m c 8 t) _ _).trans ((congrArg (iblk m c 8 t) ?_).trans (blk8 m c t))
  funext a; apply Fin.ext
  match a with
  | ⟨0, _⟩ => rfl

/-- The second slope at a grid point. -/
theorem point_a₂ (t : Fin cfg0.N) : (point m c t).α₂ = m (c, Proc.devRef .tc main_arg10) (ix1 (0 : Fin 1)) := by
  refine ((hs0_9 t).readAt_unread (iblk m c 9 t) _ _).trans ((congrArg (iblk m c 9 t) ?_).trans (blk9 m c t))
  funext a; apply Fin.ext
  match a with
  | ⟨0, _⟩ => rfl

/-- The row the arguments give. -/
def rowOf (b : Fin 16) : Sig 512 :=
  row (fun ch t => m (c, Proc.devRef .tc main_arg0) (ix3 b ch t)) (fun k t => m (c, Proc.devRef .tc main_arg1) (ix3 b k t))
    (m (c, Proc.devRef .tc main_arg2) (ix1 b)) (fun i => m (c, Proc.devRef .tc main_arg3) i) (fun i => m (c, Proc.devRef .tc main_arg8) i)
    (m (c, Proc.devRef .tc main_arg5) (ix1 (0 : Fin 1))) (m (c, Proc.devRef .tc main_arg10) (ix1 (0 : Fin 1)))
    (fun k o i => m (c, Proc.devRef .tc main_arg6) (ix3 o i k)) (fun k o i => m (c, Proc.devRef .tc main_arg11) (ix3 o i k)) root

/-- What a grid point computes is the network of its row. -/
theorem point_out (t : Fin cfg0.N) : (point m c t).out = rowOf m c ⟨t.val, t.isLt⟩ := by
  have e0 : (point m c t).inp = fun ch τ => m (c, Proc.devRef .tc main_arg0) (ix3 (⟨t.val, t.isLt⟩ : Fin 16) ch τ) := by
    funext ch τ; exact blk0 m c t ch τ
  have e1 : (fun k τ => (point m c t).x1 (ix3 (0 : Fin 1) k τ)) = fun k τ => m (c, Proc.devRef .tc main_arg1) (ix3 (⟨t.val, t.isLt⟩ : Fin 16) k τ) := by
    funext ch τ; exact blk1 m c t ch τ
  have e3 : (point m c t).x3 = fun i => m (c, Proc.devRef .tc main_arg3) i := by
    funext i; rw [eq_ix2 i]; exact blk3 m c t _ _
  have e5 : (point m c t).x5 = fun i => m (c, Proc.devRef .tc main_arg8) i := by
    funext i; rw [eq_ix2 i]; exact blk5 m c t _ _
  have e4 : (point m c t).w₁ = fun k o i => m (c, Proc.devRef .tc main_arg6) (ix3 o i k) := by
    funext k o i; exact blk4 m c t k o i
  have e6 : (point m c t).w₂ = fun k o i => m (c, Proc.devRef .tc main_arg11) (ix3 o i k) := by
    funext k o i; exact blk6 m c t k o i
  have es : (point m c t).sw = style (fun k τ => m (c, Proc.devRef .tc main_arg1) (ix3 (⟨t.val, t.isLt⟩ : Fin 16) k τ))
      (m (c, Proc.devRef .tc main_arg2) (ix1 (⟨t.val, t.isLt⟩ : Fin 16))) := by
    unfold Point.sw; rw [e1, point_ln]
  unfold Point.out Point.g₂ Point.d₁ Point.g₁
  rw [e0, e3, e4, e5, e6, es, point_a₁, point_a₂]
  rfl

/-! ## The output array -/

/-- The kernel's output array, entry by entry. -/
theorem array (b : Fin 16) (ch : Fin 512) (τ : Fin 2048) : (dats m 0 c).arrAt 10 cfg0.N (ix3 b ch τ) = rowOf m c b ch τ := by
  have hN : cfg0.N = 16 := N_0
  let t : Fin cfg0.N := ⟨b.val, by have := b.isLt; omega⟩
  have h := congrFun (Value.blocks10 m c t (flush0_10 t)) (ix3 (0 : Fin 1) ch τ)
  have hy : ((cfg0.win 10).blk t).view.emb (ix3 (0 : Fin 1) ch τ) = ix3 b ch τ := by
    have e := idx10 t
    funext a; apply Fin.ext
    match a with
    | ⟨0, _⟩ =>
      show win0_10.index t 0 * 1 + 1 * 0 = b.val
      rw [e]; show b.val * 1 + 1 * 0 = b.val; omega
    | ⟨1, _⟩ =>
      show win0_10.index t 1 * 512 + 1 * ch.val = ch.val
      rw [e]; show 0 * 512 + 1 * ch.val = ch.val; omega
    | ⟨2, _⟩ =>
      show win0_10.index t 2 * 2048 + 1 * τ.val = τ.val
      rw [e]; show 0 * 2048 + 1 * τ.val = τ.val; omega
  have h1 : (dats m 0 c).arrAt 10 cfg0.N (((cfg0.win 10).blk t).view.emb (ix3 (0 : Fin 1) ch τ)) = (dats m 0 c).flushed 10 t (ix3 (0 : Fin 1) ch τ) := h
  rw [hy] at h1
  rw [h1, Value.flushed10_A]
  have h2 : out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (ix3 (0 : Fin 1) ch τ)
      = View.canon (point m c t).pieces (ix3 (0 : Fin 1) ch τ) := by
    unfold out0_A_10
    rw [View.read_writes_junk_eq_canon]
    rfl
  refine Eq.trans ?_ (h2.trans ((done_all (point m c t) ch τ (by have := τ.isLt; omega)).trans (congrFun (congrFun (point_out m c t) ch) τ)))
  rfl

end Cert.Rows
-- ==== Proof.HostWindow.lean ====
/- The reference's windowed sum: the row padded by 18 zeros on either side, its running sums with a zero before them, and the
   difference of two of these 37 apart. On a row of reals it is the window sum. -/
module

public import proofs.«01_k».proof.Proof.Window
public import Idealize.ShloMosaic.Lib.Pointwise.IndexBridge
public import Idealize.ShloMosaic.Lib.KernelVsHost
public import Idealize.ShloMosaic.Lib.Pipeline.Value

@[expose] public section

noncomputable section

namespace Cert.HostWindow

open Idealize.ShloMosaic Cert.Window

/-- Entry `i` of the padded row: 18 zeros, the row, 18 zeros. -/
def padded (f : Fin 2048 → ℝ) (i : Nat) : EReal := if h : 18 ≤ i ∧ i - 18 < 2048 then (f ⟨i - 18, h.2⟩ : EReal) else 0

/-- The row padded by 18 on either side. -/
theorem pad_row {A C : Nat} {u : Shape} (y : FVec Ideal ⟨3, ![A, C, 2048]⟩ .f32) (z : u.Idx → EReal) (hp) (hu : 0 < u.numel)
    (hz : ∀ i, z i = 0) (f : Fin 2048 → ℝ) (a : Fin A) (b : Fin C) (hf : ∀ t, y (ix3 a b t) = (f t : EReal)) (i : Fin 2084) :
    pad (s := ⟨3, ![A, C, 2048]⟩) ⟨3, ![A, C, 2084]⟩ ![0, 0, 18] ![0, 0, 18] ![0, 0, 0] y z hp hu (ix3 a b i) = padded f i.val := by
  have ha := a.isLt
  have hb := b.isLt
  unfold padded
  by_cases h : 18 ≤ i.val ∧ i.val - 18 < 2048
  · rw [dif_pos h]
    refine (pad_apply_of_inside _ _ _ y z hp hu (ix3 a b i) (ix3 a b (⟨i.val - 18, h.2⟩ : Fin 2048)) fun c => ?_).trans (hf _)
    match c with
    | ⟨0, _⟩ => show a.val = 0 + a.val * (0 + 1); omega
    | ⟨1, _⟩ => show b.val = 0 + b.val * (0 + 1); omega
    | ⟨2, _⟩ => show i.val = 18 + (i.val - 18) * (0 + 1); omega
  · rw [dif_neg h]
    refine (pad_apply_of_not_inside _ _ _ y z hp hu (ix3 a b i) (2 : Fin 3) fun hn => h ?_).trans (hz _)
    have h1 : 18 ≤ i.val := hn.1
    have h2 : (i.val - 18) / (0 + 1) < 2048 := hn.2.2
    omega

/-- The running sums with a zero before them. -/
theorem cum_row {A C : Nat} {u v : Shape} (x : FVec Ideal ⟨3, ![A, C, 2084]⟩ .f32) (z : u.Idx → EReal) (z' : v.Idx → EReal) (hr) (hu : 0 < u.numel)
    (hp) (hv : 0 < v.numel) (hz : ∀ i, z i = 0) (hz' : ∀ i, z' i = 0) (g : Nat → EReal) (a : Fin A) (b : Fin C)
    (hg : ∀ i : Fin 2084, x (ix3 a b i) = g i.val) (j : Fin 2085) :
    pad (s := ⟨3, ![A, C, 2084]⟩) ⟨3, ![A, C, 2085]⟩ ![0, 0, 1] ![0, 0, 0] ![0, 0, 0]
      (Host.reduceWindowAdd (F := Ideal) (φ := .f32) (s := ⟨3, ![A, C, 2084]⟩) (t := ⟨3, ![A, C, 2084]⟩) ![1, 1, 2084] ![1, 1, 1] ![0, 0, 2083] ![0, 0, 0] x z hr hu)
      z' hp hv (ix3 a b j) = ∑ i ∈ Finset.range j.val, g i := by
  have ha := a.isLt
  have hb := b.isLt
  by_cases h : j.val = 0
  · rw [h, Finset.range_zero, Finset.sum_empty]
    refine (pad_apply_of_not_inside _ _ _ _ z' hp hv (ix3 a b j) (2 : Fin 3) fun hn => ?_).trans (hz' _)
    have h1 : 1 ≤ j.val := hn.1
    omega
  · have hj := j.isLt
    refine (pad_apply_of_inside _ _ _ _ z' hp hv (ix3 a b j) (ix3 a b (⟨j.val - 1, by omega⟩ : Fin 2084)) fun c => ?_).trans ?_
    · match c with
      | ⟨0, _⟩ => show a.val = 0 + a.val * (0 + 1); omega
      | ⟨1, _⟩ => show b.val = 0 + b.val * (0 + 1); omega
      | ⟨2, _⟩ => show j.val = 1 + (j.val - 1) * (0 + 1); omega
    · have e : Host.reduceWindowAdd (F := Ideal) (φ := .f32) (s := ⟨3, ![A, C, 2084]⟩) (t := ⟨3, ![A, C, 2084]⟩) ![1, 1, 2084] ![1, 1, 1] ![0, 0, 2083] ![0, 0, 0] x z hr hu
          = Ideal.hostReduceWindowAdd ![1, 1, 2084] ![1, 1, 1] ![0, 0, 2083] ![0, 0, 0] hr x 0 := by
        unfold Host.reduceWindowAdd
        rw [Ideal.hostReduceWindowAdd_def, hz]
      rw [e, ix3_eq_valueIdx]
      refine (cumsum_last (M := 2083) x hr g a b (fun i => ?_) (⟨j.val - 1, by omega⟩ : Fin 2084)).trans ?_
      · rw [← ix3_eq_valueIdx]; exact hg i
      · congr 2; show j.val - 1 + 1 = j.val; omega

/-- A slice of the last axis. -/
theorem last_apply {A C N n o : Nat} (x : FVec Ideal ⟨3, ![A, C, N]⟩ .f32) (h) (a : Fin A) (b : Fin C) (t : Fin n) (j : Fin N) (hj : j.val = o + t.val) :
    extractStridedSlice (⟨3, ![A, C, n]⟩ : Shape) ![0, 0, o] x h (ix3 a b t) = x (ix3 a b j) := by
  refine extractStridedSlice_apply _ x h (ix3 a b t) (ix3 a b j) fun c => ?_
  match c with
  | ⟨0, _⟩ => show a.val = 0 + a.val; omega
  | ⟨1, _⟩ => show b.val = 0 + b.val; omega
  | ⟨2, _⟩ => exact hj

/-- The reference's windowed sum of a row of reals. -/
theorem window {A C : Nat} {u₁ u₂ u₃ : Shape} (y : FVec Ideal ⟨3, ![A, C, 2048]⟩ .f32) (z₁ : u₁.Idx → EReal) (z₂ : u₂.Idx → EReal) (z₃ : u₃.Idx → EReal)
    (hp₁) (hu₁ : 0 < u₁.numel) (hr) (hu₂ : 0 < u₂.numel) (hp₃) (hu₃ : 0 < u₃.numel) (h37) (h0)
    (hz₁ : ∀ i, z₁ i = 0) (hz₂ : ∀ i, z₂ i = 0) (hz₃ : ∀ i, z₃ i = 0) (f : Fin 2048 → ℝ) (a : Fin A) (b : Fin C)
    (hf : ∀ t, y (ix3 a b t) = (f t : EReal)) (t : Fin 2048) (D : FVec Ideal ⟨3, ![A, C, 2085]⟩ .f32)
    (hD : D = pad (s := ⟨3, ![A, C, 2084]⟩) ⟨3, ![A, C, 2085]⟩ ![0, 0, 1] ![0, 0, 0] ![0, 0, 0]
      (Host.reduceWindowAdd (F := Ideal) (φ := .f32) (s := ⟨3, ![A, C, 2084]⟩) (t := ⟨3, ![A, C, 2084]⟩) ![1, 1, 2084] ![1, 1, 1] ![0, 0, 2083] ![0, 0, 0]
        (pad (s := ⟨3, ![A, C, 2048]⟩) ⟨3, ![A, C, 2084]⟩ ![0, 0, 18] ![0, 0, 18] ![0, 0, 0] y z₁ hp₁ hu₁) z₂ hr hu₂) z₃ hp₃ hu₃) :
    subf (extractStridedSlice (⟨3, ![A, C, 2048]⟩ : Shape) ![0, 0, 37] D h37) (extractStridedSlice (⟨3, ![A, C, 2048]⟩ : Shape) ![0, 0, 0] D h0) (ix3 a b t)
      = (winR f t : EReal) := by
  have ht := t.isLt
  have e (j : Fin 2085) : D (ix3 a b j) = ∑ i ∈ Finset.range j.val, padded f i := by
    rw [hD]
    exact cum_row _ z₂ z₃ hr hu₂ hp₃ hu₃ hz₂ hz₃ (padded f) a b (pad_row y z₁ hp₁ hu₁ hz₁ f a b hf) j
  have e1 := (last_apply D h37 a b t (⟨t.val + 37, by omega⟩ : Fin 2085) (Nat.add_comm _ _)).trans (e _)
  have e0 := (last_apply D h0 a b t (⟨t.val, by omega⟩ : Fin 2085) (Nat.zero_add _).symm).trans (e _)
  exact (congrArg₂ (fun p q : EReal => p - q) e1 e0).trans (range_sub f (padded f) (fun _ => rfl) t)

end Cert.HostWindow

end
-- ==== Proof.Modulation.lean ====
/- The modulation: the reference averages the projected style over the window and masks it; the kernel averages the style
   itself, masks it and projects the result. On finite styles and projections with a zero bias the two are the same. -/
module

public import proofs.«01_k».proof.Proof.HostWindow
public import proofs.«01_k».proof.Proof.Style
public import proofs.«01_k».proof.Proof.Gen.ReferenceIdeal.Read

@[expose] public section

noncomputable section

namespace Cert.Modulation

open Idealize.ShloMosaic Cert.ReferenceIdeal Cert.ReferenceIdeal.Read Cert.ReferenceIdeal.Gen Cert.Net Cert.Window Cert.Style Cert.Steps

/-! ## The equation -/

/-- The window sum of a combination is the combination of the window sums. -/
theorem winR_sum {n : Nat} (w : Fin n → ℝ) (s : Fin n → Fin 2048 → ℝ) (t : Fin 2048) :
    winR (fun t => ∑ k, w k * s k t) t = ∑ k, w k * winR (s k) t := by
  unfold winR
  simp only [Finset.mul_sum]
  rw [Finset.sum_comm]
  refine Finset.sum_congr rfl fun i _ => ?_
  split
  · rfl
  · simp

/-- The mask is a real. -/
theorem mask_real (ln : BitVec 32) (t : Fin 2048) : mask ln t = ((if (t.val : ℤ) < ln.toInt then 1 else 0 : ℝ) : EReal) := by
  unfold mask; split <;> simp

/-- Averaging the projected style is projecting the averaged style. -/
theorem swap (w : Fin 128 → ℝ) (s : Fin 128 → Fin 2048 → ℝ) (ln : BitVec 32) (t : Fin 2048) :
    Ideal.div (winR (fun t => ∑ k, w k * s k t) t : EReal) (win (mask ln) t + eps) * mask ln t
      = ∑ k, (w k : EReal) * (win (fun t => (s k t : EReal)) t * weight ln t) := by
  obtain ⟨d, hd, e⟩ := denom _ (count_nonneg ln.toInt t.val)
  have ew : weight ln t = (((if (t.val : ℤ) < ln.toInt then 1 else 0 : ℝ) * (1 / d) : ℝ) : EReal) := by
    unfold weight
    rw [win_mask, e, Ideal.div_coe hd.ne', mask_real, EReal.coe_mul]
  rw [win_mask, e, Ideal.div_coe hd.ne', mask_real, winR_sum]
  simp only [ew, win_coe, ← EReal.coe_mul, ← coe_sum]
  congr 1
  rw [Finset.sum_mul, Finset.sum_mul]
  refine Finset.sum_congr rfl fun k _ => ?_
  ring

/-! ## The reference's arrays -/

variable (x1 : FVec Ideal S16x128x2048 .f32) (x2 : IVec S16 32) (x3 : FVec Ideal S1024x128 .f32) (x4 : FVec Ideal S1024 .f32)

/-- The padding value is zero. -/
theorem zero_pad (i : S_.Idx) : val_main_call0_v0 (F := Ideal) i = 0 := by
  show (((0#32 : BitVec 32).toInt : ℝ) : EReal) = 0
  simp

/-- The running sums start from zero. -/
theorem zero_init (i : S_.Idx) : val_main_call1_call0_v0 (F := Ideal) i = 0 := by
  rw [val_main_call1_call0_v0_apply, val_main_call1_call0_cst_apply]
  exact Ideal.ofBits_zero_f32

/-- The reference's mask. -/
theorem mask_apply (b : Fin 16) (t : Fin 2048) : val_main_v12 (F := Ideal) x2 (ix3 b (0 : Fin 1) t) = mask (x2 (ix1 b)) t := by
  rw [val_main_v12_apply, val_main_v6_apply, val_main_v5_apply, val_main_v3_apply, val_main_v1_apply, val_main_v0_apply, val_main_v4_apply,
    val_main_v2_apply]
  have e : idx_main_v2 (idx_main_v4 (idx_main_v12 (ix3 b (0 : Fin 1) t))) = ix1 b := by
    funext a; match a with | ⟨0, _⟩ => rfl
  rw [e]
  show (((IntOp.cmpi .slt (BitVec.ofNat 32 t.val) (x2 (ix1 b))).toNat : ℝ) : EReal) = _
  rw [show IntOp.cmpi .slt (BitVec.ofNat 32 t.val) (x2 (ix1 b)) = BitVec.ofBool ((BitVec.ofNat 32 t.val).slt (x2 (ix1 b))) from rfl]
  unfold mask
  by_cases h : (t.val : ℤ) < (x2 (ix1 b)).toInt
  · have hs : (BitVec.ofNat 32 t.val).slt (x2 (ix1 b)) = true := by rw [BitVec.slt_iff_toInt_lt, toInt_col]; exact h
    rw [if_pos h, hs]; simp
  · have hs : (BitVec.ofNat 32 t.val).slt (x2 (ix1 b)) = false := by
      rw [Bool.eq_false_iff]; intro hb; rw [BitVec.slt_iff_toInt_lt, toInt_col] at hb; exact h hb
    rw [if_neg h, hs]; simp

/-- The reference's denominator. -/
theorem denom_apply (b : Fin 16) (t : Fin 2048) :
    val_main_v20 (F := Ideal) x2 (ix3 b (0 : Fin 1) t) = win (mask (x2 (ix1 b))) t + eps := by
  rw [val_main_v20_apply, val_main_v19_apply]
  have e : val_main_v18 (F := Ideal) x2 (ix3 b (0 : Fin 1) t) = win (mask (x2 (ix1 b))) t := by
    have er : mask (x2 (ix1 b)) = fun t => ((if (t.val : ℤ) < (x2 (ix1 b)).toInt then 1 else 0 : ℝ) : EReal) := funext fun t => mask_real _ t
    rw [er, win_coe]
    exact HostWindow.window (val_main_v12 (F := Ideal) x2) _ _ _ pads_S16x1x2048_S16x1x2084_000_000_18180 h_S_
      reduceWindows_S16x1x2084_S16x1x2084_w1s1p0_0_w1s1p0_0_w2084s1p2083_0 h_S_ pads_S16x1x2084_S16x1x2085_000_000_100 h_S_
      slices_S16x1x2085_S16x1x2048_0_0_37 slices_S16x1x2085_S16x1x2048_0_0_0 zero_pad zero_init zero_pad _ b 0
      (fun t => (mask_apply x2 b t).trans (mask_real _ t)) t _ rfl
  rw [e]
  rfl

/-- A product of a projection with the styles. -/
theorem dot_apply (w : FVec Ideal S1024x128 .f32) (c : Fin 1024) (b : Fin 16) (t : Fin 2048) :
    val_main_v7 (F := Ideal) x1 w (ix3 c b t) = ∑ k : Fin 128, w (ix2 c k) * x1 (ix3 b k t) := by
  rw [val_main_v7_apply]
  refine Finset.sum_congr rfl fun k _ => congrArg₂ (fun p q : EReal => p * q) (congrArg w ?_) (congrArg x1 ?_)
  · funext a; match a with | ⟨0, _⟩ => rfl | ⟨1, _⟩ => rfl
  · funext a; match a with | ⟨0, _⟩ => rfl | ⟨1, _⟩ => rfl | ⟨2, _⟩ => rfl

variable (s : S16x128x2048.Idx → ℝ) (hs : ∀ i, x1 i = (s i : EReal)) (w : S1024x128.Idx → ℝ) (hw : ∀ i, x3 i = (w i : EReal)) (h4 : ∀ i, x4 i = 0)

include hs hw h4

/-- The projected style with its zero bias is a real sum. -/
theorem proj_apply (b : Fin 16) (c : Fin 1024) (t : Fin 2048) :
    val_main_v11 (F := Ideal) x1 x3 x4 (ix3 b c t) = ((∑ k, w (ix2 c k) * s (ix3 b k t) : ℝ) : EReal) := by
  rw [val_main_v11_apply, val_main_v10_apply, val_main_v9_apply, h4, val_main_v8_apply]
  have e : idx_main_v8 (ix3 b c t) = ix3 c b t := by
    funext a; match a with | ⟨0, _⟩ => rfl | ⟨1, _⟩ => rfl | ⟨2, _⟩ => rfl
  rw [e, dot_apply, coe_sum]
  refine (add_zero _).trans (Finset.sum_congr rfl fun k _ => ?_)
  rw [hw, hs, EReal.coe_mul]

/-- The window average of the projected style, masked, from the window sum. -/
theorem average (b : Fin 16) (c : Fin 1024) (t : Fin 2048) :
    Ideal.div (winR (fun t => ∑ k, w (ix2 c k) * s (ix3 b k t)) t : EReal) (win (mask (x2 (ix1 b))) t + eps) * mask (x2 (ix1 b)) t
      = ∑ k, x3 (ix2 c k) * style (fun k t => x1 (ix3 b k t)) (x2 (ix1 b)) k t := by
  refine (swap (fun k => w (ix2 c k)) (fun k t => s (ix3 b k t)) (x2 (ix1 b)) t).trans (Finset.sum_congr rfl fun k _ => ?_)
  unfold style
  simp only [hw, hs]

/-- The scale's modulation. -/
theorem gamma (b : Fin 16) (ch : Fin 512) (t : Fin 2048) :
    val_main_v31 (F := Ideal) x1 x2 x3 x4 (ix3 b ch t)
      = modul (fun i => x3 i) (style (fun k t => x1 (ix3 b k t)) (x2 (ix1 b))) 0 (by omega) ch t := by
  have eU : val_main_v27 (F := Ideal) x1 x3 x4 (ix3 b ch t)
      = (winR (fun t => ∑ k, w (ix2 (⟨0 + ch.val, by omega⟩ : Fin 1024) k) * s (ix3 b k t)) t : EReal) :=
    HostWindow.window (val_main_v21 (F := Ideal) x1 x3 x4) _ _ _ pads_S16x512x2048_S16x512x2084_000_000_18180 h_S_
      reduceWindows_S16x512x2084_S16x512x2084_w1s1p0_0_w1s1p0_0_w2084s1p2083_0 h_S_ pads_S16x512x2084_S16x512x2085_000_000_100 h_S_
      slices_S16x512x2085_S16x512x2048_0_0_37 slices_S16x512x2085_S16x512x2048_0_0_0 zero_pad zero_init zero_pad _ b ch
      (fun t => by
        rw [val_main_v21_apply, ← proj_apply x1 x3 x4 s hs w hw h4 b (⟨0 + ch.val, by omega⟩ : Fin 1024) t]
        refine congrArg _ ?_
        funext a; apply Fin.ext
        match a with
        | ⟨0, _⟩ => rfl
        | ⟨1, _⟩ => exact (Nat.zero_add _).symm
        | ⟨2, _⟩ => rfl) t _ rfl
  have eD : val_main_v28 (F := Ideal) x2 (ix3 b ch t) = win (mask (x2 (ix1 b))) t + eps := by
    rw [val_main_v28_apply, ← denom_apply]
    refine congrArg _ ?_
    funext a; match a with | ⟨0, _⟩ => rfl | ⟨1, _⟩ => rfl | ⟨2, _⟩ => rfl
  have eM : val_main_v30 (F := Ideal) x2 (ix3 b ch t) = mask (x2 (ix1 b)) t := by
    rw [val_main_v30_apply, ← mask_apply]
    refine congrArg _ ?_
    funext a; match a with | ⟨0, _⟩ => rfl | ⟨1, _⟩ => rfl | ⟨2, _⟩ => rfl
  exact (congrArg₂ (fun p q : EReal => p * q) (congrArg₂ Ideal.div eU eD) eM).trans (average x1 x2 x3 x4 s hs w hw h4 b _ t)

/-- The shift's modulation. -/
theorem beta (b : Fin 16) (ch : Fin 512) (t : Fin 2048) :
    val_main_v42 (F := Ideal) x1 x2 x3 x4 (ix3 b ch t)
      = modul (fun i => x3 i) (style (fun k t => x1 (ix3 b k t)) (x2 (ix1 b))) 512 (by omega) ch t := by
  have eU : val_main_v38 (F := Ideal) x1 x3 x4 (ix3 b ch t)
      = (winR (fun t => ∑ k, w (ix2 (⟨512 + ch.val, by omega⟩ : Fin 1024) k) * s (ix3 b k t)) t : EReal) :=
    HostWindow.window (val_main_v32 (F := Ideal) x1 x3 x4) _ _ _ pads_S16x512x2048_S16x512x2084_000_000_18180 h_S_
      reduceWindows_S16x512x2084_S16x512x2084_w1s1p0_0_w1s1p0_0_w2084s1p2083_0 h_S_ pads_S16x512x2084_S16x512x2085_000_000_100 h_S_
      slices_S16x512x2085_S16x512x2048_0_0_37 slices_S16x512x2085_S16x512x2048_0_0_0 zero_pad zero_init zero_pad _ b ch
      (fun t => by
        rw [val_main_v32_apply, ← proj_apply x1 x3 x4 s hs w hw h4 b (⟨512 + ch.val, by omega⟩ : Fin 1024) t]
        refine congrArg _ ?_
        funext a; match a with | ⟨0, _⟩ => rfl | ⟨1, _⟩ => rfl | ⟨2, _⟩ => rfl) t _ rfl
  have eD : val_main_v39 (F := Ideal) x2 (ix3 b ch t) = win (mask (x2 (ix1 b))) t + eps := by
    rw [val_main_v39_apply, ← denom_apply]
    refine congrArg _ ?_
    funext a; match a with | ⟨0, _⟩ => rfl | ⟨1, _⟩ => rfl | ⟨2, _⟩ => rfl
  have eM : val_main_v41 (F := Ideal) x2 (ix3 b ch t) = mask (x2 (ix1 b)) t := by
    rw [val_main_v41_apply, ← mask_apply]
    refine congrArg _ ?_
    funext a; match a with | ⟨0, _⟩ => rfl | ⟨1, _⟩ => rfl | ⟨2, _⟩ => rfl
  exact (congrArg₂ (fun p q : EReal => p * q) (congrArg₂ Ideal.div eU eD) eM).trans (average x1 x2 x3 x4 s hs w hw h4 b _ t)

end Cert.Modulation

end
-- ==== Proof.Reference.lean ====
/- The reference's output, entry by entry: two rounds of (modulated activation, three-tap convolution) and the skip
   connection. The second round is the first one's function at other arguments. -/
module

public import proofs.«01_k».proof.Proof.Modulation

@[expose] public section

noncomputable section

namespace Cert.Reference

open Idealize.ShloMosaic Cert.ReferenceIdeal Cert.ReferenceIdeal.Read Cert.ReferenceIdeal.Gen Cert.Net Cert.Window Cert.Style Cert.Steps

variable (x0 : FVec Ideal S16x512x2048 .f32) (x1 : FVec Ideal S16x128x2048 .f32) (x2 : IVec S16 32) (x3 : FVec Ideal S1024x128 .f32) (x4 : FVec Ideal S1024 .f32)
  (x5 : FVec Ideal S1 .f32) (x6 : FVec Ideal S512x512x3 .f32) (x7 : FVec Ideal S512 .f32)

/-! ## One round's activation -/

/-- The slope inside the tanh, broadcast. -/
theorem slope_in (b : Fin 16) (ch : Fin 512) (t : Fin 2048) : val_main_v44 (F := Ideal) x5 (ix3 b ch t) = x5 (ix1 (0 : Fin 1)) := by
  rw [val_main_v44_apply, val_main_v43_apply]
  refine congrArg _ ?_
  funext a; match a with | ⟨0, _⟩ => rfl

/-- A row of the first round's activation. -/
def actRow (b : Fin 16) : Sig 512 :=
  layer (x5 (ix1 (0 : Fin 1))) (fun ch t => x0 (ix3 b ch t)) (modul (fun i => x3 i) (style (fun k t => x1 (ix3 b k t)) (x2 (ix1 b))) 0 (by omega))
    (modul (fun i => x3 i) (style (fun k t => x1 (ix3 b k t)) (x2 (ix1 b))) 512 (by omega))

/-- What is asked of the style, the projection and its bias: real entries, a zero bias. -/
structure Good : Prop where
  s : ∃ s : S16x128x2048.Idx → ℝ, ∀ i, x1 i = (s i : EReal)
  w : ∃ w : S1024x128.Idx → ℝ, ∀ i, x3 i = (w i : EReal)
  bias : ∀ i, x4 i = 0

variable {x1 x3 x4} in
/-- The reference's activation array. -/
theorem act_apply (hg : Good x1 x3 x4) (b : Fin 16) (ch : Fin 512) (t : Fin 2048) :
    val_main_v51 (F := Ideal) x0 x1 x2 x3 x4 x5 (ix3 b ch t) = actRow x0 x1 x2 x3 x5 b ch t := by
  obtain ⟨⟨s, hs⟩, ⟨w, hw⟩, h4⟩ := hg
  have ev : val_main_v50 (F := Ideal) x0 x1 x2 x3 x4 x5 (ix3 b ch t)
      = Ideal.tanh (x5 (ix1 (0 : Fin 1)) * x0 (ix3 b ch t)) * (1 + modul (fun i => x3 i) (style (fun k t => x1 (ix3 b k t)) (x2 (ix1 b))) 0 (by omega) ch t)
        + modul (fun i => x3 i) (style (fun k t => x1 (ix3 b k t)) (x2 (ix1 b))) 512 (by omega) ch t := by
    rw [val_main_v50_apply, val_main_v49_apply, val_main_v48_apply, val_main_v47_apply, val_main_cst_5_apply, val_main_v46_apply, val_main_v45_apply,
      slope_in, Modulation.gamma x1 x2 x3 x4 s hs w hw h4, Modulation.beta x1 x2 x3 x4 s hs w hw h4]
    have e1 : FloatOps.ofBits (F := Ideal) .f32 0x3F800000#32 = (1 : EReal) := Scalars.lit_one
    rw [e1]
    exact congrArg (fun p : EReal => p + _) (mul_comm _ _)
  rw [val_main_v51_apply, val_main_call9_v1_apply, val_main_call9_v4_apply, val_main_call9_v0_apply, val_main_call9_cst_apply, val_main_call9_v3_apply,
    val_main_call9_v2_apply, val_main_cst_6_apply, ev]
  unfold actRow layer act leaky
  have e0 : FloatOps.ofBits (F := Ideal) .f32 0x00000000#32 = (0 : EReal) := Ideal.ofBits_zero_f32
  rw [e0]
  generalize Ideal.tanh (x5 (ix1 (0 : Fin 1)) * x0 (ix3 b ch t)) * (1 + modul (fun i => x3 i) (style (fun k t => x1 (ix3 b k t)) (x2 (ix1 b))) 0 (by omega) ch t)
        + modul (fun i => x3 i) (style (fun k t => x1 (ix3 b k t)) (x2 (ix1 b))) 512 (by omega) ch t = v
  by_cases h : 0 ≤ v
  · rw [if_pos h]
    have : FloatOps.cmpf (F := Ideal) (φ := .f32) .oge v (0 : EReal) = 1#1 := by
      show BitVec.ofBool (decide (0 ≤ v)) = 1#1
      rw [decide_eq_true h]; rfl
    rw [this]; rfl
  · rw [if_neg h]
    have : FloatOps.cmpf (F := Ideal) (φ := .f32) .oge v (0 : EReal) = 0#1 := by
      show BitVec.ofBool (decide (0 ≤ v)) = 0#1
      rw [decide_eq_false h]; rfl
    rw [this]; rfl

/-! ## One round's convolution -/

/-- A product with a weight matrix over the channels. -/
theorem dot_apply (x : FVec Ideal S16x512x2048 .f32) (w : FVec Ideal S512x512 .f32) (b : Fin 16) (t : Fin 2048) (o : Fin 512) :
    Host.dotGeneral dot_S16x512x2048_S512x512_S16x2048x512_1_1_02_0_n_n none x w (ix3 b t o) = ∑ k : Fin 512, w (ix2 o k) * x (ix3 b k t) := by
  simp only [Host.dotGeneral]
  rw [Ideal.dotGeneral_apply, ← Equiv.sum_comp (ValueIdx.contrEquiv1 dot_S16x512x2048_S512x512_S16x2048x512_1_1_02_0_n_n 512 rfl rfl).symm]
  refine Finset.sum_congr rfl fun k _ => ?_
  have hk := ValueIdx.contrEquiv1_symm_val dot_S16x512x2048_S512x512_S16x2048x512_1_1_02_0_n_n 512 rfl rfl k
  refine (mul_comm _ _).trans (congrArg₂ (fun p q : EReal => p * q) (congrArg w ?_) (congrArg x ?_))
  · funext a; apply Fin.ext
    match a with
    | ⟨0, _⟩ => exact rhs_main_v56_0 _ _
    | ⟨1, _⟩ => exact (rhs_main_v56_1 _ _).trans hk
  · funext a; apply Fin.ext
    match a with
    | ⟨0, _⟩ => exact lhs_main_v56_0 _ _
    | ⟨1, _⟩ => exact (lhs_main_v56_1 _ _).trans hk
    | ⟨2, _⟩ => exact lhs_main_v56_2 _ _

/-- One tap: the weight's slab against the padded activation moved by the tap. -/
theorem tap_apply (P : FVec Ideal S16x512x2050 .f32) (W : FVec Ideal S512x512x3 .f32) (k : Nat) (K : Fin 3) (hK : K.val = k) (h1) (h2) (h3) (h4)
    (G : Fin 512 → Fin 2048 → EReal) (b : Fin 16) (hP : ∀ (i : Fin 512) (t : Fin 2048), P (ix3 b i (⟨k + t.val, by omega⟩ : Fin 2050)) = G i t)
    (o : Fin 512) (t : Fin 2048) :
    transpose S16x512x2048 [0, 2, 1] (Host.dotGeneral dot_S16x512x2048_S512x512_S16x2048x512_1_1_02_0_n_n none
        (extractStridedSlice S16x512x2048 ![0, 0, k] P h1) (shapeCast S512x512 (extractStridedSlice S512x512x1 ![0, 0, k] W h2) h3)) h4 (ix3 b o t)
      = ∑ i, W (ix3 o i K) * G i t := by
  refine (transpose_apply [0, 2, 1] _ h4 (ix3 b o t) (ix3 b t o) fun a => ?_).trans ((dot_apply _ _ b t o).trans
    (Finset.sum_congr rfl fun i _ => congrArg₂ (fun p q : EReal => p * q) ?_ ?_))
  · match a with
    | ⟨0, _⟩ => rfl
    | ⟨1, _⟩ => rfl
    | ⟨2, _⟩ => rfl
  · refine (shapeCast_apply _ h3 (ix2 o i) (ix3 o i (0 : Fin 1)) ?_).trans (HostWindow.last_apply W h2 o i 0 K (hK.trans (Nat.add_zero _).symm))
    rw [Shape.rowMajor_val_three, Shape.rowMajor_val_two]
    show (o.val * 512 + i.val) * 1 + 0 = o.val * 512 + i.val
    omega
  · exact (HostWindow.last_apply P h1 b i t (⟨k + t.val, by omega⟩ : Fin 2050) rfl).trans (hP i t)

/-- The activation with a zero on either side. -/
theorem pad_apply (b : Fin 16) (G : Sig 512) (hG : ∀ ch t, val_main_v51 (F := Ideal) x0 x1 x2 x3 x4 x5 (ix3 b ch t) = G ch t) (i : Fin 512) (j : Fin 2050) :
    val_main_v52 (F := Ideal) x0 x1 x2 x3 x4 x5 (ix3 b i j) = if h : 1 ≤ j.val ∧ j.val - 1 < 2048 then G i ⟨j.val - 1, h.2⟩ else 0 := by
  have hb := b.isLt
  have hi := i.isLt
  unfold val_main_v52
  by_cases h : 1 ≤ j.val ∧ j.val - 1 < 2048
  · rw [dif_pos h]
    refine (pad_apply_of_inside _ _ _ _ _ pads_S16x512x2048_S16x512x2050_000_000_110 h_S_ (ix3 b i j) (ix3 b i (⟨j.val - 1, h.2⟩ : Fin 2048)) fun c => ?_).trans (hG _ _)
    match c with
    | ⟨0, _⟩ => show b.val = 0 + b.val * (0 + 1); omega
    | ⟨1, _⟩ => show i.val = 0 + i.val * (0 + 1); omega
    | ⟨2, _⟩ => show j.val = 1 + (j.val - 1) * (0 + 1); omega
  · rw [dif_neg h]
    refine (pad_apply_of_not_inside _ _ _ _ _ pads_S16x512x2048_S16x512x2050_000_000_110 h_S_ (ix3 b i j) (2 : Fin 3) fun hn => h ?_).trans (Modulation.zero_pad _)
    have h1 : 1 ≤ j.val := hn.1
    have h2 : (j.val - 1) / (0 + 1) < 2048 := hn.2.2
    omega

/-- The bias, broadcast, is zero. -/
theorem bias_apply (h7 : ∀ i, x7 i = 0) (i : S16x512x2048.Idx) : val_main_v73 (F := Ideal) x7 i = 0 := by
  rw [val_main_v73_apply, val_main_v72_apply, h7]

/-- The sum starts from zero. -/
theorem zero_apply (i : S16x512x2048.Idx) : val_main_v58 (F := Ideal) i = 0 := by
  rw [val_main_v58_apply, val_main_cst_8_apply]
  exact Ideal.ofBits_zero_f32

variable {x7} in
/-- The reference's convolution array, from its activation array. -/
theorem conv_apply (h7 : ∀ i, x7 i = 0) (b : Fin 16) (G : Sig 512) (hG : ∀ ch t, val_main_v51 (F := Ideal) x0 x1 x2 x3 x4 x5 (ix3 b ch t) = G ch t)
    (ch : Fin 512) (t : Fin 2048) :
    val_main_v74 (F := Ideal) x0 x1 x2 x3 x4 x5 x6 x7 (ix3 b ch t) = conv (fun k o i => x6 (ix3 o i k)) G ch t := by
  have hP := pad_apply x0 x1 x2 x3 x4 x5 b G hG
  have e0 : val_main_v57 (F := Ideal) x0 x1 x2 x3 x4 x5 x6 (ix3 b ch t) = ∑ i, x6 (ix3 ch i 0) * earlier G i t :=
    tap_apply _ x6 0 0 rfl slices_S16x512x2050_S16x512x2048_0_0_0 slices_S512x512x3_S512x512x1_0_0_0 shapeCasts_S512x512x1_S512x512
      transposes_S16x2048x512_S16x512x2048_0_2_1 (earlier G) b (fun i t => by
        rw [hP]; unfold earlier
        have ht := t.isLt
        by_cases h : t.val = 0
        · rw [if_pos h, dif_neg (by show ¬(1 ≤ 0 + t.val ∧ _); omega)]
        · rw [if_neg h, dif_pos (by show 1 ≤ 0 + t.val ∧ 0 + t.val - 1 < 2048; omega)]
          exact congrArg (G i) (Fin.ext (by show 0 + t.val - 1 = t.val - 1; omega))) ch t
  have e1 : val_main_v64 (F := Ideal) x0 x1 x2 x3 x4 x5 x6 (ix3 b ch t) = ∑ i, x6 (ix3 ch i 1) * G i t :=
    tap_apply _ x6 1 1 rfl slices_S16x512x2050_S16x512x2048_0_0_1 slices_S512x512x3_S512x512x1_0_0_1 shapeCasts_S512x512x1_S512x512
      transposes_S16x2048x512_S16x512x2048_0_2_1 G b (fun i t => by
        rw [hP]
        have ht := t.isLt
        rw [dif_pos (by show 1 ≤ 1 + t.val ∧ 1 + t.val - 1 < 2048; omega)]
        exact congrArg (G i) (Fin.ext (by show 1 + t.val - 1 = t.val; omega))) ch t
  have e2 : val_main_v70 (F := Ideal) x0 x1 x2 x3 x4 x5 x6 (ix3 b ch t) = ∑ i, x6 (ix3 ch i 2) * later G i t :=
    tap_apply _ x6 2 2 rfl slices_S16x512x2050_S16x512x2048_0_0_2 slices_S512x512x3_S512x512x1_0_0_2 shapeCasts_S512x512x1_S512x512
      transposes_S16x2048x512_S16x512x2048_0_2_1 (later G) b (fun i t => by
        rw [hP]; unfold later
        have ht := t.isLt
        by_cases h : t.val + 1 < 2048
        · rw [dif_pos h, dif_pos (by show 1 ≤ 2 + t.val ∧ 2 + t.val - 1 < 2048; omega)]
          exact congrArg (G i) (Fin.ext (by show 2 + t.val - 1 = t.val + 1; omega))
        · rw [dif_neg h, dif_neg (by show ¬(1 ≤ 2 + t.val ∧ 2 + t.val - 1 < 2048); omega)]) ch t
  rw [val_main_v74_apply, val_main_v71_apply, val_main_v65_apply, val_main_v59_apply, zero_apply, bias_apply x7 h7, e0, e1, e2]
  unfold conv
  show (((0 : EReal) + _) + _ + _) + 0 = _
  rw [zero_add, add_zero]
  exact congrArg (fun p : EReal => p + _) (add_comm _ _)

/-! ## The two rounds -/

variable (x8 : FVec Ideal S1024x128 .f32) (x9 : FVec Ideal S1024 .f32) (x10 : FVec Ideal S1 .f32) (x11 : FVec Ideal S512x512x3 .f32) (x12 : FVec Ideal S512 .f32)

/-- The second round is the first one's function of the first round's array and the second round's parameters. -/
theorem second : val_main_v142 (F := Ideal) x0 x1 x2 x3 x4 x5 x6 x7 x8 x9 x10 x11 x12
    = val_main_v74 (F := Ideal) (val_main_v74 (F := Ideal) x0 x1 x2 x3 x4 x5 x6 x7) x1 x2 x8 x9 x10 x11 x12 := rfl

/-- The divisor is the root of two. -/
theorem divisor (i : S16x512x2048.Idx) : val_main_v145 (F := Ideal) i = ((Real.sqrt 2 : ℝ) : EReal) := by
  rw [val_main_v145_apply, val_main_v144_apply, val_main_cst_20_apply]
  have e : FloatOps.ofBits (F := Ideal) .f32 0x40000000#32 = ((2 : ℝ) : EReal) := Scalars.lit_two
  rw [e]
  exact (Ideal.sqrt_coe 2).trans (if_neg (by norm_num))

variable {x1 x3 x4 x7 x8 x9 x12} in
/-- The reference's output array, entry by entry: the network of a row of the arguments. -/
theorem out_apply (hg₁ : Good x1 x3 x4) (hg₂ : Good x1 x8 x9) (h7 : ∀ i, x7 i = 0) (h12 : ∀ i, x12 i = 0) (b : Fin 16) (ch : Fin 512) (t : Fin 2048) :
    val_main_v146 (F := Ideal) x0 x1 x2 x3 x4 x5 x6 x7 x8 x9 x10 x11 x12 (ix3 b ch t)
      = net (fun ch t => x0 (ix3 b ch t)) (x5 (ix1 (0 : Fin 1))) (x10 (ix1 (0 : Fin 1)))
          (modul (fun i => x3 i) (style (fun k t => x1 (ix3 b k t)) (x2 (ix1 b))) 0 (by omega))
          (modul (fun i => x3 i) (style (fun k t => x1 (ix3 b k t)) (x2 (ix1 b))) 512 (by omega))
          (modul (fun i => x8 i) (style (fun k t => x1 (ix3 b k t)) (x2 (ix1 b))) 0 (by omega))
          (modul (fun i => x8 i) (style (fun k t => x1 (ix3 b k t)) (x2 (ix1 b))) 512 (by omega))
          (fun k o i => x6 (ix3 o i k)) (fun k o i => x11 (ix3 o i k)) (((Real.sqrt 2)⁻¹ : ℝ) : EReal) ch t := by
  have e1 : (fun ch t => val_main_v74 (F := Ideal) x0 x1 x2 x3 x4 x5 x6 x7 (ix3 b ch t)) = conv (fun k o i => x6 (ix3 o i k)) (actRow x0 x1 x2 x3 x5 b) := by
    funext ch t
    exact conv_apply x0 x1 x2 x3 x4 x5 x6 h7 b _ (act_apply x0 x2 x5 hg₁ b) ch t
  have e2 := conv_apply (val_main_v74 (F := Ideal) x0 x1 x2 x3 x4 x5 x6 x7) x1 x2 x8 x9 x10 x11 h12 b _
    (act_apply (val_main_v74 (F := Ideal) x0 x1 x2 x3 x4 x5 x6 x7) x2 x10 hg₂ b) ch t
  rw [val_main_v146_apply, val_main_v143_apply, divisor, second, e2]
  unfold actRow at e1 ⊢
  rw [e1]
  exact Scalars.div_sqrt_two _

end Cert.Reference

end
-- ==== Proof.Inputs.lean ====
/- What the precondition says of the arguments: the style features and the two projections are real, and the four biases are
   zero. -/
module

public import proofs.«01_k».proof.Proof.Reference
public import proofs.«01_k».proof.Proof.Gen.Pre_finite_and_unbiased
public import Idealize.ShloMosaic.Lib.ReduceAll
public import Idealize.ShloMosaic.Lib.Affine

@[expose] public section

noncomputable section

namespace Cert.Inputs

open Idealize.ShloMosaic Cert.Pre_finite_and_unbiased

/-- A value whose absolute value is below infinity is real. -/
theorem real_of_below (x : EReal) (h : FloatOps.cmpf (F := Ideal) (φ := .f32) .olt (FloatOps.hostAbsf x) (FloatOps.ofBits (F := Ideal) .f32 0x7F800000#32) = 1#1) :
    ∃ r : ℝ, x = (r : EReal) := by
  have htop : FloatOps.ofBits (F := Ideal) .f32 0x7F800000#32 = (⊤ : EReal) := by
    show Ideal.ofBits .f32 0x7F800000#32 = ⊤
    simp [Ideal.ofBits, Ideal.ieee]
  rw [htop] at h
  have h' : BitVec.ofBool (decide (max x (-x) < (⊤ : EReal))) = 1#1 := h
  have hlt : max x (-x) < (⊤ : EReal) := by
    by_contra hn
    rw [decide_eq_false hn] at h'
    exact absurd h' (by decide)
  induction x with
  | bot => simp at hlt
  | top => simp at hlt
  | coe r => exact ⟨r, rfl⟩

/-- A value that compares equal to zero is zero. -/
theorem zero_of_eq (x : EReal) (h : FloatOps.cmpf (F := Ideal) (φ := .f32) .oeq x (FloatOps.ofBits (F := Ideal) .f32 0x00000000#32) = 1#1) : x = 0 := by
  have e0 : FloatOps.ofBits (F := Ideal) .f32 0x00000000#32 = (0 : EReal) := Ideal.ofBits_zero_f32
  rw [e0] at h
  have h' : BitVec.ofBool (decide (x = 0)) = 1#1 := h
  by_contra hn
  rw [decide_eq_false hn] at h'
  exact absurd h' (by decide)

/-- An array all of whose entries are below infinity in absolute value is an array of reals. -/
theorem all_real {s : Shape} {axes : List (Fin s.rank)} (x : FVec Ideal s .f32) (bc : S_.BroadcastsInDim s (![] : Fin 0 → Fin s.rank)) (red : s.ReducesTo axes S_) (j : S_.Idx)
    (h : Host.reduce IntOp.andi (cmpf .olt (Host.absf x) (broadcastInDim s ![] bc (constant S_ .f32 0x7F800000#32))) (constantI S_ 1 1#1) red Gen.h_S_ j = 1#1) :
    ∃ r : s.Idx → ℝ, ∀ i, x i = (r i : EReal) := by
  have : Subsingleton S_.Idx := ⟨fun a b => funext fun k => k.elim0⟩
  have hr (i : s.Idx) : ∃ r : ℝ, x i = (r : EReal) := real_of_below (x i) (Host.reduce_andi_all _ _ red Gen.h_S_ j h i)
  exact ⟨fun i => (hr i).choose, fun i => (hr i).choose_spec⟩

/-- An array all of whose entries compare equal to zero is zero. -/
theorem all_zero {s : Shape} {axes : List (Fin s.rank)} (x : FVec Ideal s .f32) (bc : S_.BroadcastsInDim s (![] : Fin 0 → Fin s.rank)) (red : s.ReducesTo axes S_) (j : S_.Idx)
    (h : Host.reduce IntOp.andi (cmpf .oeq x (broadcastInDim s ![] bc (constant S_ .f32 0x00000000#32))) (constantI S_ 1 1#1) red Gen.h_S_ j = 1#1) (i : s.Idx) :
    x i = 0 := by
  have : Subsingleton S_.Idx := ⟨fun a b => funext fun k => k.elim0⟩
  exact zero_of_eq (x i) (Host.reduce_andi_all _ _ red Gen.h_S_ j h i)

/-- The two sides of a conjunction that holds. -/
theorem both (a b : IVec S_ 1) (j : S_.Idx) (h : andi a b j = 1#1) : a j = 1#1 ∧ b j = 1#1 := IntOp.andi_eq_one.mp h

/-- The precondition's seven conditions. -/
theorem of_pre (x0 : FVec Ideal S16x512x2048 .f32) (x1 : FVec Ideal S16x128x2048 .f32) (x2 : IVec S16 32) (x3 : FVec Ideal S1024x128 .f32)
    (x4 : FVec Ideal S1024 .f32) (x5 : FVec Ideal S1 .f32) (x6 : FVec Ideal S512x512x3 .f32) (x7 : FVec Ideal S512 .f32) (x8 : FVec Ideal S1024x128 .f32)
    (x9 : FVec Ideal S1024 .f32) (x10 : FVec Ideal S1 .f32) (x11 : FVec Ideal S512x512x3 .f32) (x12 : FVec Ideal S512 .f32) (j : S_.Idx)
    (h : fn (F := Ideal) x0 x1 x2 x3 x4 x5 x6 x7 x8 x9 x10 x11 x12 j = 1#1) :
    Reference.Good x1 x3 x4 ∧ Reference.Good x1 x8 x9 ∧ (∀ i, x7 i = 0) ∧ ∀ i, x12 i = 0 := by
  replace h := both _ _ j h
  obtain ⟨h, h12⟩ := h
  replace h := both _ _ j h
  obtain ⟨h, h7⟩ := h
  replace h := both _ _ j h
  obtain ⟨h, h9⟩ := h
  replace h := both _ _ j h
  obtain ⟨h, h4⟩ := h
  replace h := both _ _ j h
  obtain ⟨h, h8⟩ := h
  obtain ⟨h1, h3⟩ := both _ _ j h
  have r1 := all_real x1 Gen.bcast_S_S16x128x2048 Gen.reducesTo_S16x128x2048_S_d0_1_2 j h1
  exact ⟨⟨r1, all_real x3 Gen.bcast_S_S1024x128 Gen.reducesTo_S1024x128_S_d0_1 j h3, all_zero x4 Gen.bcast_S_S1024 Gen.reducesTo_S1024_S_d0 j h4⟩,
    ⟨r1, all_real x8 Gen.bcast_S_S1024x128 Gen.reducesTo_S1024x128_S_d0_1 j h8, all_zero x9 Gen.bcast_S_S1024 Gen.reducesTo_S1024_S_d0 j h9⟩,
    all_zero x7 Gen.bcast_S_S512 Gen.reducesTo_S512_S_d0 j h7, all_zero x12 Gen.bcast_S_S512 Gen.reducesTo_S512_S_d0 j h12⟩

end Cert.Inputs

end
-- ==== Proof.Claims.lean ====
/- The claims: both programs run and leave their arguments, the named constant is the root's reciprocal, and at exact
   arithmetic the kernel's result array is the reference's. -/
module

public import proofs.«01_k».proof.Defs
public import proofs.«01_k».proof.Proof.Rows
public import proofs.«01_k».proof.Proof.Inputs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

noncomputable section

namespace Cert.Claims

open Idealize.ShloMosaic Idealize.ShloMosaic.TcCoe Idealize.ShloMosaic.StableHlo Idealize.SL.Sem

/-- The kernel as printed runs, and leaves its arguments. -/
theorem frame_p : Cert.quiescent_Kernel := fun m ρ _ => Cert.Kernel.Gen.frame m ρ

/-- The idealized kernel runs, and leaves its arguments. -/
theorem frame_pi : Cert.quiescent_KernelIdeal := fun m ρ _ => Cert.KernelIdeal.Gen.frame m ρ

/-- The same under the precondition. -/
theorem frame_pi_pre : Cert.quiescent_KernelIdeal_pre_finite_and_unbiased := fun m ρ _ => Cert.KernelIdeal.Gen.frame m ρ

/-- The idealized reference runs, and leaves its arguments. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_ri_pre : Cert.quiescent_ReferenceIdeal_pre_finite_and_unbiased := fun m ρ _ => frame_ri m ρ trivial

/-- The named constant is the reciprocal of the root of two, and the printed word is that real's. -/
theorem preserves : Cert.preserves_Kernel_KernelIdeal :=
  IdealRules.named_const.statement Cert.KernelIdeal.κ "inv_sqrt2" .f32 0x3F3504F3#32 (((Real.sqrt 2)⁻¹ : ℝ) : EReal) rfl

/-- The kernel's last factor. -/
theorem root_eq : Run.root = (((Real.sqrt 2)⁻¹ : ℝ) : EReal) := IdealRules.named_const.ideal_named_scalar _ _ _ _ rfl

/-- The kernel's result array is the reference's last stage of the same arguments. -/
theorem result (m : (ℓ : Loc Cert.KernelIdeal.nD Cert.KernelIdeal.τ Cert.KernelIdeal.sig) → Buf (Elt Ideal) ℓ) (hpre : Cert.Pre_KernelIdeal_finite_and_unbiased m)
    (c : Dev Cert.KernelIdeal.nD) :
    (Cert.KernelIdeal.Gen.dats m 0 c).arrAt 10 Cert.KernelIdeal.cfg0.N
      = Cert.ReferenceIdeal.Read.val_main_v146 (F := Ideal)
          (m (c.tc.loc Cert.KernelIdeal.main_arg0)) (m (c.tc.loc Cert.KernelIdeal.main_arg1)) (m (c.tc.loc Cert.KernelIdeal.main_arg2))
          (m (c.tc.loc Cert.KernelIdeal.main_arg3)) (m (c.tc.loc Cert.KernelIdeal.main_arg4)) (m (c.tc.loc Cert.KernelIdeal.main_arg5))
          (m (c.tc.loc Cert.KernelIdeal.main_arg6)) (m (c.tc.loc Cert.KernelIdeal.main_arg7)) (m (c.tc.loc Cert.KernelIdeal.main_arg8))
          (m (c.tc.loc Cert.KernelIdeal.main_arg9)) (m (c.tc.loc Cert.KernelIdeal.main_arg10)) (m (c.tc.loc Cert.KernelIdeal.main_arg11))
          (m (c.tc.loc Cert.KernelIdeal.main_arg12)) := by
  obtain ⟨h₁, h₂, h7, h12⟩ := Inputs.of_pre _ _ _ _ _ _ _ _ _ _ _ _ _ (fun k => k.elim0) (congrFun (hpre c) _)
  funext i
  have hi : i = ix3 (i 0) (i 1) (i 2) := by
    funext a; match a with
    | ⟨0, _⟩ => rfl
    | ⟨1, _⟩ => rfl
    | ⟨2, _⟩ => rfl
  rw [hi]
  refine (Rows.array m c _ _ _).trans (Eq.trans ?_ (Reference.out_apply _ _ _ _ _ _ h₁ h₂ h7 h12 _ _ _).symm)
  unfold Rows.rowOf Rows.row
  rw [root_eq]

/-- The reference's last stage, of its own memory's arguments. -/
def last (m : (ℓ : Loc Cert.ReferenceIdeal.nD Cert.ReferenceIdeal.τ Cert.ReferenceIdeal.sig) → Buf (Elt Ideal) ℓ) (c : Dev Cert.ReferenceIdeal.nD) :
    FVec Ideal Cert.ReferenceIdeal.S16x512x2048 .f32 :=
  Cert.ReferenceIdeal.Read.val_main_v146 (F := Ideal)
    (launchContents m c (Proc.devRef .tc Cert.ReferenceIdeal.main_arg0)) (launchContents m c (Proc.devRef .tc Cert.ReferenceIdeal.main_arg1))
    (launchContents m c (Proc.devRef .tc Cert.ReferenceIdeal.main_arg2)) (launchContents m c (Proc.devRef .tc Cert.ReferenceIdeal.main_arg3))
    (launchContents m c (Proc.devRef .tc Cert.ReferenceIdeal.main_arg4)) (launchContents m c (Proc.devRef .tc Cert.ReferenceIdeal.main_arg5))
    (launchContents m c (Proc.devRef .tc Cert.ReferenceIdeal.main_arg6)) (launchContents m c (Proc.devRef .tc Cert.ReferenceIdeal.main_arg7))
    (launchContents m c (Proc.devRef .tc Cert.ReferenceIdeal.main_arg8)) (launchContents m c (Proc.devRef .tc Cert.ReferenceIdeal.main_arg9))
    (launchContents m c (Proc.devRef .tc Cert.ReferenceIdeal.main_arg10)) (launchContents m c (Proc.devRef .tc Cert.ReferenceIdeal.main_arg11))
    (launchContents m c (Proc.devRef .tc Cert.ReferenceIdeal.main_arg12))

/-- The reference ends with its last stage in its result buffer, and its arguments as they were. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD, r.2.mem (c.tc.loc Cert.ReferenceIdeal.main_v146) = last m c :=
  (θ_run Cert.ReferenceIdeal.defs _ _).mono (fun _ h c => (h c).1.trans (Cert.ReferenceIdeal.Read.val_main_v146_eq (launchContents m c)))
    (Cert.ReferenceIdeal.Value.run (F := Ideal) m ρ)

/-- At exact arithmetic the two programs' results are equal. -/
theorem algebraic : Cert.algebraic_KernelIdeal_ReferenceIdeal_pre_finite_and_unbiased := by
  intro m ρ m' ρ' hpre hagree
  refine ⟨_, Cert.KernelIdeal.Value.run_blocks (F := Ideal) m ρ, ?_⟩
  refine (θ_run Cert.ReferenceIdeal.defs _ _).mono (fun _ h c => ⟨(h.1 c).trans ?_, h.2.1 c⟩)
    (θ_run_and (run_reference m' ρ') (frame_ri m' ρ' trivial))
  refine Eq.trans ?_ (result m hpre c).symm
  obtain ⟨a0, a1, a2, a3, a4, a5, a6, a7, a8, a9, a10, a11, a12⟩ := hagree c
  rw [← a0, ← a1, ← a2, ← a3, ← a4, ← a5, ← a6, ← a7, ← a8, ← a9, ← a10, ← a11, ← a12]
  rfl

end Cert.Claims

end
-- ==== Proof.lean ====
module

public import proofs.«01_k».proof.Defs
public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite_and_unbiased
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_finite_and_unbiased.Gen.facts,
    Claims.frame_p, Claims.frame_pi, Claims.frame_pi_pre, Claims.frame_ri, Claims.frame_ri_pre, Claims.preserves, Claims.algebraic⟩

end Cert.Proof

end
